-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_one [hPre_mask_is_one : Cert.Pre_mask_is_one.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_one [hPre_mask_is_one : Cert.Pre_mask_is_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_mask_is_one [hKernelIdeal : Cert.KernelIdeal.Facts] [hPre_mask_is_one : Cert.Pre_mask_is_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_mask_is_one [hReferenceIdeal : Cert.ReferenceIdeal.Facts] [hPre_mask_is_one : Cert.Pre_mask_is_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_mask_is_one [hKernelIdeal : Cert.KernelIdeal.Facts] [hReferenceIdeal : Cert.ReferenceIdeal.Facts] [hPre_mask_is_one : Cert.Pre_mask_is_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_mask_is_one : Cert.Pre_mask_is_one.Facts),
    quiescent_Kernel (hKernel := hKernel)
    ∧ quiescent_KernelIdeal (hKernelIdeal := hKernelIdeal)
    ∧ quiescent_KernelIdeal_pre_mask_is_one (hKernelIdeal := hKernelIdeal) (hPre_mask_is_one := hPre_mask_is_one)
    ∧ quiescent_ReferenceIdeal (hReferenceIdeal := hReferenceIdeal)
    ∧ quiescent_ReferenceIdeal_pre_mask_is_one (hReferenceIdeal := hReferenceIdeal) (hPre_mask_is_one := hPre_mask_is_one)
    ∧ preserves_Kernel_KernelIdeal
    ∧ algebraic_KernelIdeal_ReferenceIdeal_pre_mask_is_one (hKernelIdeal := hKernelIdeal) (hReferenceIdeal := hReferenceIdeal) (hPre_mask_is_one := hPre_mask_is_one)
-- ==== Pre_mask_is_one.lean ====
abbrev S2x2048x512 : Shape := ⟨3, ![2, 2048, 512]⟩
abbrev S2x2048 : Shape := ⟨2, ![2, 2048]⟩
abbrev S512 : Shape := ⟨1, ![512]⟩
abbrev S2048x512 : Shape := ⟨2, ![2048, 512]⟩
abbrev S1024x1x4 : Shape := ⟨3, ![1024, 1, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S_ : Shape := ⟨0, ![]⟩

class Facts : Prop where
  bcast_S_S2x2048 : S_.BroadcastsInDim S2x2048 (![] : Fin 0 → Fin S2x2048.rank)

variable [Facts]

def fn {F : FTy → Type} [FloatOps F] (main_arg0 : FVec F S2x2048x512 .f32) (main_arg1 : IVec S2x2048 32) (main_arg2 : FVec F S512 .f32) (main_arg3 : FVec F S2048x512 .f32) (main_arg4 : FVec F S1024x1x4 .f32) (main_arg5 : FVec F S1024 .f32) (main_arg6 : FVec F S64x1024 .f32) (main_arg7 : FVec F S1024x32 .f32) (main_arg8 : FVec F S1024 .f32) (main_arg9 : FVec F S1024x16 .f32) (main_arg10 : FVec F S1024 .f32) (main_arg11 : FVec F S512x1024 .f32) : IVec S2x2048 1 :=
  let main_c : IVec S_ 32 := constantI S_ 32 1#32
  let main_v0 : IVec S2x2048 32 := broadcastInDim S2x2048 ![] bcast_S_S2x2048 main_c
  let main_v1 : IVec S2x2048 1 := cmpi .eq main_arg1 main_v0
  main_v1
-- ==== Kernel.lean ====
abbrev S2x2048x512 : Shape := ⟨3, ![2, 2048, 512]⟩
abbrev S2x2048 : Shape := ⟨2, ![2, 2048]⟩
abbrev S512 : Shape := ⟨1, ![512]⟩
abbrev S2048x512 : Shape := ⟨2, ![2048, 512]⟩
abbrev S1024x1x4 : Shape := ⟨3, ![1024, 1, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S512x2048 : Shape := ⟨2, ![512, 2048]⟩
abbrev S1024x4 : Shape := ⟨2, ![1024, 4]⟩
abbrev S4x1024 : Shape := ⟨2, ![4, 1024]⟩
abbrev S1024x64 : Shape := ⟨2, ![1024, 64]⟩
abbrev S32x1024 : Shape := ⟨2, ![32, 1024]⟩
abbrev S16x1024 : Shape := ⟨2, ![16, 1024]⟩
abbrev S1024x512 : Shape := ⟨2, ![1024, 512]⟩
abbrev S1x512 : Shape := ⟨2, ![1, 512]⟩
abbrev S1x1024 : Shape := ⟨2, ![1, 1024]⟩
abbrev S1x128x512 : Shape := ⟨3, ![1, 128, 512]⟩
abbrev S136x1024 : Shape := ⟨2, ![136, 1024]⟩
abbrev S128x16x1024 : Shape := ⟨3, ![128, 16, 1024]⟩
abbrev S8x1024 : Shape := ⟨2, ![8, 1024]⟩
abbrev S128x512 : Shape := ⟨2, ![128, 512]⟩
abbrev S128 : Shape := ⟨1, ![128]⟩
abbrev S128x1 : Shape := ⟨2, ![128, 1]⟩
abbrev S128x2048 : Shape := ⟨2, ![128, 2048]⟩
abbrev S128x1024 : Shape := ⟨2, ![128, 1024]⟩
abbrev S128x64 : Shape := ⟨2, ![128, 64]⟩
abbrev S128x32 : Shape := ⟨2, ![128, 32]⟩
abbrev S128x16 : Shape := ⟨2, ![128, 16]⟩
abbrev S16x1x1024 : Shape := ⟨3, ![16, 1, 1024]⟩
abbrev S1x16x1024 : Shape := ⟨3, ![1, 16, 1024]⟩
abbrev S16x16x1024 : Shape := ⟨3, ![16, 16, 1024]⟩
abbrev S16x16 : Shape := ⟨2, ![16, 16]⟩
abbrev S16x16x1 : Shape := ⟨3, ![16, 16, 1]⟩

abbrev nBuf : Space → Nat
  | .hbm => 24
  | .vmem => 18
  | .smem => 0
  | _ => 0

abbrev bufTy : (tb : Table) → Fin (tcTables nBuf tb) → BufTy
  | .hbm, ⟨0, _⟩ => ⟨S2x2048x512, .f32⟩
  | .hbm, ⟨1, _⟩ => ⟨S2x2048, .i32⟩
  | .hbm, ⟨2, _⟩ => ⟨S512, .f32⟩
  | .hbm, ⟨3, _⟩ => ⟨S2048x512, .f32⟩
  | .hbm, ⟨4, _⟩ => ⟨S1024x1x4, .f32⟩
  | .hbm, ⟨5, _⟩ => ⟨S1024, .f32⟩
  | .hbm, ⟨6, _⟩ => ⟨S64x1024, .f32⟩
  | .hbm, ⟨7, _⟩ => ⟨S1024x32, .f32⟩
  | .hbm, ⟨8, _⟩ => ⟨S1024, .f32⟩
  | .hbm, ⟨9, _⟩ => ⟨S1024x16, .f32⟩
  | .hbm, ⟨10, _⟩ => ⟨S1024, .f32⟩
  | .hbm, ⟨11, _⟩ => ⟨S512x1024, .f32⟩
  | .hbm, ⟨12, _⟩ => ⟨S512x2048, .f32⟩
  | .hbm, ⟨13, _⟩ => ⟨S1024x4, .f32⟩
  | .hbm, ⟨14, _⟩ => ⟨S4x1024, .f32⟩
  | .hbm, ⟨15, _⟩ => ⟨S1024x64, .f32⟩
  | .hbm, ⟨16, _⟩ => ⟨S32x1024, .f32⟩
  | .hbm, ⟨17, _⟩ => ⟨S16x1024, .f32⟩
  | .hbm, ⟨18, _⟩ => ⟨S1024x512, .f32⟩
  | .hbm, ⟨19, _⟩ => ⟨S1x512, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S2x2048x512, .f32⟩
  | .local _ .vmem, ⟨0, _⟩ => ⟨S1x128x512, .f32⟩
  | .local _ .vmem, ⟨1, _⟩ => ⟨S1x128x512, .f32⟩
  | .local _ .vmem, ⟨2, _⟩ => ⟨S1x512, .f32⟩
  | .local _ .vmem, ⟨3, _⟩ => ⟨S512x2048, .f32⟩
  | .local _ .vmem, ⟨4, _⟩ => ⟨S4x1024, .f32⟩
  | .local _ .vmem, ⟨5, _⟩ => ⟨S1x1024, .f32⟩
  | .local _ .vmem, ⟨6, _⟩ => ⟨S1024x64, .f32⟩
  | .local _ .vmem, ⟨7, _⟩ => ⟨S32x1024, .f32⟩
  | .local _ .vmem, ⟨8, _⟩ => ⟨S1x1024, .f32⟩
  | .local _ .vmem, ⟨9, _⟩ => ⟨S16x1024, .f32⟩
  | .local _ .vmem, ⟨10, _⟩ => ⟨S1x1024, .f32⟩
  | .local _ .vmem, ⟨11, _⟩ => ⟨S1024x512, .f32⟩
  | .local _ .vmem, ⟨12, _⟩ => ⟨S1x128x512, .f32⟩
  | .local _ .vmem, ⟨13, _⟩ => ⟨S1x128x512, .f32⟩
  | .local _ .vmem, ⟨14, _⟩ => ⟨S136x1024, .f32⟩
  | .local _ .vmem, ⟨15, _⟩ => ⟨S128x16x1024, .f32⟩
  | .local _ .vmem, ⟨16, _⟩ => ⟨S128x16x1024, .f32⟩
  | .local _ .vmem, ⟨17, _⟩ => ⟨S16x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_82 : BitVec 32 := 0#32
  let c32_i32 : BitVec 32 := 32#32
  let v254 : BitVec 32 := Scalar.addi c0_i32_82 c32_i32
  let c1_i32 : BitVec 32 := 1#32
  ⟨c0_i32_82, v254, c1_i32⟩
def k0_off1 (k0_t1 : Fin k0_t1_loop.trips) (c0_i32_126 : BitVec 32) : Fin 3 → Nat :=
  let c0_i32_82 : BitVec 32 := 0#32
  let c1_i32 : BitVec 32 := 1#32
  let arg18 : BitVec 32 := Scf.iv c0_i32_82 c1_i32 k0_t1
  let c4_i32 : BitVec 32 := 4#32
  let v323 : BitVec 32 := Scalar.muli arg18 c4_i32
  let v324 : BitVec 32 := Scalar.addi v323 c0_i32_126
  let v325 : Index := Scalar.indexCast v324
  let c0_127 : Index := 0#32
  let c0_128 : Index := 0#32
  ![v325.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x2048x512 : Shape := ⟨3, ![2, 2048, 512]⟩
abbrev S2x2048 : Shape := ⟨2, ![2, 2048]⟩
abbrev S512 : Shape := ⟨1, ![512]⟩
abbrev S2048x512 : Shape := ⟨2, ![2048, 512]⟩
abbrev S1024x1x4 : Shape := ⟨3, ![1024, 1, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S_ : Shape := ⟨0, ![]⟩
abbrev S2x2048x1 : Shape := ⟨3, ![2, 2048, 1]⟩
abbrev S1x1x512 : Shape := ⟨3, ![1, 1, 512]⟩
abbrev S2x2048x2048 : Shape := ⟨3, ![2, 2048, 2048]⟩
abbrev S2x2048x1024 : Shape := ⟨3, ![2, 2048, 1024]⟩
abbrev S2x2051x1024 : Shape := ⟨3, ![2, 2051, 1024]⟩
abbrev S1024x1x1 : Shape := ⟨3, ![1024, 1, 1]⟩
abbrev S1x1x1024 : Shape := ⟨3, ![1, 1, 1024]⟩
abbrev S2x2048x64 : Shape := ⟨3, ![2, 2048, 64]⟩
abbrev S2x2048x32 : Shape := ⟨3, ![2, 2048, 32]⟩
abbrev S2x2048x16 : Shape := ⟨3, ![2, 2048, 16]⟩
abbrev S2048x2x1024 : Shape := ⟨3, ![2048, 2, 1024]⟩
abbrev S2048x2x16 : Shape := ⟨3, ![2048, 2, 16]⟩
abbrev S2x1024x16 : Shape := ⟨3, ![2, 1024, 16]⟩
abbrev S1x2x1024 : Shape := ⟨3, ![1, 2, 1024]⟩
abbrev S2x1024 : Shape := ⟨2, ![2, 1024]⟩
abbrev S1x2x16 : Shape := ⟨3, ![1, 2, 16]⟩
abbrev S2x16 : Shape := ⟨2, ![2, 16]⟩
abbrev S2x1024x1 : Shape := ⟨3, ![2, 1024, 1]⟩
abbrev S1x1024x16 : Shape := ⟨3, ![1, 1024, 16]⟩
abbrev S2x1x16 : Shape := ⟨3, ![2, 1, 16]⟩
abbrev S1x1024 : Shape := ⟨2, ![1, 1024]⟩

abbrev nBuf : Space → Nat
  | .hbm => 187
  | .vmem => 0
  | .smem => 0
  | _ => 0

abbrev hbmTy0_0 (i : Nat) : BufTy := match i % 128 with
  | 0 => ⟨S2x2048x512, .f32⟩
  | 1 => ⟨S2x2048, .i32⟩
  | 2 => ⟨S512, .f32⟩
  | 3 => ⟨S2048x512, .f32⟩
  | 4 => ⟨S1024x1x4, .f32⟩
  | 5 => ⟨S1024, .f32⟩
  | 6 => ⟨S64x1024, .f32⟩
  | 7 => ⟨S1024x32, .f32⟩
  | 8 => ⟨S1024, .f32⟩
  | 9 => ⟨S1024x16, .f32⟩
  | 10 => ⟨S1024, .f32⟩
  | 11 => ⟨S512x1024, .f32⟩
  | 12 => ⟨S2x2048x512, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1, .f32⟩
  | 23 => ⟨S2x2048x512, .f32⟩
  | 24 => ⟨S2x2048x512, .f32⟩
  | 25 => ⟨S1x1x512, .f32⟩
  | 26 => ⟨S2x2048x512, .f32⟩
  | 27 => ⟨S2x2048x512, .f32⟩
  | 28 => ⟨S2x2048x1, .i32⟩
  | 29 => ⟨S2x2048x1, .f32⟩
  | 30 => ⟨S2x2048x512, .f32⟩
  | 31 => ⟨S2x2048x512, .f32⟩
  | 32 => ⟨S2x2048x2048, .f32⟩
  | 33 => ⟨S2x2048x1024, .f32⟩
  | 34 => ⟨S2x2048x1024, .f32⟩
  | 35 => ⟨S_, .i32⟩
  | 36 => ⟨S_, .f32⟩
  | 37 => ⟨S2x2051x1024, .f32⟩
  | 38 => ⟨S2x2048x1024, .f32⟩
  | 39 => ⟨S1024x1x1, .f32⟩
  | 40 => ⟨S1024, .f32⟩
  | 41 => ⟨S1x1x1024, .f32⟩
  | 42 => ⟨S2x2048x1024, .f32⟩
  | 43 => ⟨S2x2048x1024, .f32⟩
  | 44 => ⟨S2x2048x1024, .f32⟩
  | 45 => ⟨S1024x1x1, .f32⟩
  | 46 => ⟨S1024, .f32⟩
  | 47 => ⟨S1x1x1024, .f32⟩
  | 48 => ⟨S2x2048x1024, .f32⟩
  | 49 => ⟨S2x2048x1024, .f32⟩
  | 50 => ⟨S2x2048x1024, .f32⟩
  | 51 => ⟨S2x2048x1024, .f32⟩
  | 52 => ⟨S1024x1x1, .f32⟩
  | 53 => ⟨S1024, .f32⟩
  | 54 => ⟨S1x1x1024, .f32⟩
  | 55 => ⟨S2x2048x1024, .f32⟩
  | 56 => ⟨S2x2048x1024, .f32⟩
  | 57 => ⟨S2x2048x1024, .f32⟩
  | 58 => ⟨S2x2048x1024, .f32⟩
  | 59 => ⟨S1024x1x1, .f32⟩
  | 60 => ⟨S1024, .f32⟩
  | 61 => ⟨S1x1x1024, .f32⟩
  | 62 => ⟨S2x2048x1024, .f32⟩
  | 63 => ⟨S2x2048x1024, .f32⟩
  | 64 => ⟨S2x2048x1024, .f32⟩
  | 65 => ⟨S1x1x1024, .f32⟩
  | 66 => ⟨S2x2048x1024, .f32⟩
  | 67 => ⟨S2x2048x1024, .f32⟩
  | 68 => ⟨S2x2048x1024, .f32⟩
  | 69 => ⟨S2x2048x1024, .f32⟩
  | 70 => ⟨S_, .f32⟩
  | 71 => ⟨S2x2048x1024, .f32⟩
  | 72 => ⟨S2x2048x1024, .f32⟩
  | 73 => ⟨S_, .f32⟩
  | 74 => ⟨S2x2048x1024, .f32⟩
  | 75 => ⟨S2x2048x1024, .f32⟩
  | 76 => ⟨S2x2048x1024, .f32⟩
  | 77 => ⟨S2x2048x64, .f32⟩
  | 78 => ⟨S2x2048x32, .f32⟩
  | 79 => ⟨S2x2048x16, .f32⟩
  | 80 => ⟨S2x2048x16, .f32⟩
  | 81 => ⟨S2x2048x1024, .f32⟩
  | 82 => ⟨S1x1x1024, .f32⟩
  | 83 => ⟨S2x2048x1024, .f32⟩
  | 84 => ⟨S2x2048x1024, .f32⟩
  | 85 => ⟨S_, .f32⟩
  | 86 => ⟨S2x2048x1024, .f32⟩
  | 87 => ⟨S2x2048x1024, .f32⟩
  | 88 => ⟨S2x2048x1024, .f32⟩
  | 89 => ⟨S2x2048x1024, .f32⟩
  | 90 => ⟨S2x2048x1024, .i1⟩
  | 91 => ⟨S2x2048x1024, .f32⟩
  | 92 => ⟨S2x2048x1024, .f32⟩
  | 93 => ⟨S2x2048x1024, .f32⟩
  | 94 => ⟨S2x2048x1024, .f32⟩
  | 95 => ⟨S2x2048x1024, .f32⟩
  | 96 => ⟨S2x2048x1024, .f32⟩
  | 97 => ⟨S2x2048x1024, .f32⟩
  | 98 => ⟨S2x2048x1024, .f32⟩
  | 99 => ⟨S1024x16, .f32⟩
  | 100 => ⟨S1024x16, .f32⟩
  | 101 => ⟨S2048x2x1024, .f32⟩
  | 102 => ⟨S2048x2x16, .f32⟩
  | 103 => ⟨S2048x2x16, .f32⟩
  | 104 => ⟨S2048x2x1024, .f32⟩
  | 105 => ⟨S2048x2x1024, .f32⟩
  | 106 => ⟨S_, .f32⟩
  | 107 => ⟨S2x1024x16, .f32⟩
  | 108 => ⟨S_, .f32⟩
  | 109 => ⟨S2048x2x1024, .f32⟩
  | 110 => ⟨S_, .i32⟩
  | 111 => ⟨S2048x2x1024, .f32⟩
  | 112 => ⟨S2048x2x16, .f32⟩
  | 113 => ⟨S2048x2x16, .f32⟩
  | 114 => ⟨S2048x2x1024, .f32⟩
  | 115 => ⟨S2048x2x1024, .f32⟩
  | 116 => ⟨S1024x16, .f32⟩
  | 117 => ⟨S1024, .f32⟩
  | 118 => ⟨S_, .i32⟩
  | 119 => ⟨S2x1024x16, .f32⟩
  | 120 => ⟨S2048x2x1024, .f32⟩
  | 121 => ⟨S_, .i32⟩
  | 122 => ⟨S_, .i1⟩
  | 123 => ⟨S_, .i32⟩
  | 124 => ⟨S_, .i32⟩
  | 125 => ⟨S1x2x1024, .f32⟩
  | 126 => ⟨S2x1024, .f32⟩
  | 127 => ⟨S_, .i32⟩
  | _ => ⟨S2x2048x512, .f32⟩

abbrev hbmTy0_1 (i : Nat) : BufTy := match i % 128 with
  | 0 => ⟨S_, .i32⟩
  | 1 => ⟨S1x2x16, .f32⟩
  | 2 => ⟨S2x16, .f32⟩
  | 3 => ⟨S_, .i32⟩
  | 4 => ⟨S_, .i32⟩
  | 5 => ⟨S1x2x16, .f32⟩
  | 6 => ⟨S2x16, .f32⟩
  | 7 => ⟨S_, .i32⟩
  | 8 => ⟨S_, .i32⟩
  | 9 => ⟨S1x2x1024, .f32⟩
  | 10 => ⟨S2x1024, .f32⟩
  | 11 => ⟨S_, .i32⟩
  | 12 => ⟨S_, .i32⟩
  | 13 => ⟨S1x2x1024, .f32⟩
  | 14 => ⟨S2x1024, .f32⟩
  | 15 => ⟨S2x1024x1, .f32⟩
  | 16 => ⟨S1x1024x16, .f32⟩
  | 17 => ⟨S2x1024x16, .f32⟩
  | 18 => ⟨S2x1024x16, .f32⟩
  | 19 => ⟨S2x1024x16, .f32⟩
  | 20 => ⟨S2x1024x16, .f32⟩
  | 21 => ⟨S2x1024x1, .f32⟩
  | 22 => ⟨S2x1x16, .f32⟩
  | 23 => ⟨S2x1024x16, .f32⟩
  | 24 => ⟨S2x1024x16, .f32⟩
  | 25 => ⟨S2x1024x16, .f32⟩
  | 26 => ⟨S2x1024x1, .f32⟩
  | 27 => ⟨S2x1024x16, .f32⟩
  | 28 => ⟨S2x1024x16, .f32⟩
  | 29 => ⟨S2x1024x16, .f32⟩
  | 30 => ⟨S2x1024x16, .f32⟩
  | 31 => ⟨S2x1024, .f32⟩
  | 32 => ⟨S1x1024, .f32⟩
  | 33 => ⟨S2x1024, .f32⟩
  | 34 => ⟨S2x1024, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S2x1024, .f32⟩
  | 46 => ⟨S1x2x1024, .f32⟩
  | 47 => ⟨S_, .i32⟩
  | 48 => ⟨S_, .i32⟩
  | 49 => ⟨S2048x2x1024, .f32⟩
  | 50 => ⟨S_, .i32⟩
  | 51 => ⟨S_, .i32⟩
  | 52 => ⟨S2x2048x1024, .f32⟩
  | 53 => ⟨S2x2048x512, .f32⟩
  | 54 => ⟨S2x2048x1, .i32⟩
  | 55 => ⟨S2x2048x1, .f32⟩
  | 56 => ⟨S2x2048x512, .f32⟩
  | 57 => ⟨S2x2048x512, .f32⟩
  | 58 => ⟨S2x2048x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_2 : Ref sig .tc := ⟨.hbm, 106, rfl⟩
abbrev main_v68 : Ref sig .tc := ⟨.hbm, 107, rfl⟩
abbrev main_cst_3 : Ref sig .tc := ⟨.hbm, 108, rfl⟩
abbrev main_v69 : Ref sig .tc := ⟨.hbm, 109, rfl⟩
abbrev main_c_4 : Ref sig .tc := ⟨.hbm, 110, rfl⟩
abbrev main_v70_0 : Ref sig .tc := ⟨.hbm, 111, rfl⟩
abbrev main_v70_1 : Ref sig .tc := ⟨.hbm, 112, rfl⟩
abbrev main_v70_2 : Ref sig .tc := ⟨.hbm, 113, rfl⟩
abbrev main_v70_3 : Ref sig .tc := ⟨.hbm, 114, rfl⟩
abbrev main_v70_4 : Ref sig .tc := ⟨.hbm, 115, rfl⟩
abbrev main_v70_5 : Ref sig .tc := ⟨.hbm, 116, rfl⟩
abbrev main_v70_6 : Ref sig .tc := ⟨.hbm, 117, rfl⟩
abbrev main_v70_7 : Ref sig .tc := ⟨.hbm, 118, rfl⟩
abbrev main_v70_8 : Ref sig .tc := ⟨.hbm, 119, rfl⟩
abbrev main_v70_9 : Ref sig .tc := ⟨.hbm, 120, rfl⟩
abbrev main_while0c_c_14 : Ref sig .tc := ⟨.hbm, 121, rfl⟩
abbrev main_while0c_v78 : Ref sig .tc := ⟨.hbm, 122, rfl⟩
abbrev main_while0b_call3_c : Ref sig .tc := ⟨.hbm, 123, rfl⟩
abbrev main_while0b_call3_c_0 : Ref sig .tc := ⟨.hbm, 124, rfl⟩
abbrev main_while0b_call3_v0 : Ref sig .tc := ⟨.hbm, 125, rfl⟩
abbrev main_while0b_v78 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_call4_v0 : Ref sig .tc := ⟨.hbm, 129, rfl⟩
abbrev main_while0b_v79 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_v0 : Ref sig .tc := ⟨.hbm, 133, rfl⟩
abbrev main_while0b_v80 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_call6_v0 : Ref sig .tc := ⟨.hbm, 137, rfl⟩
abbrev main_while0b_v81 : Ref sig .tc := ⟨.hbm, 138, rfl⟩
abbrev main_while0b_call7_c : Ref sig .tc := ⟨.hbm, 139, rfl⟩
abbrev main_while0b_call7_c_0 : Ref sig .tc := ⟨.hbm, 140, rfl⟩
abbrev main_while0b_call7_v0 : Ref sig .tc := ⟨.hbm, 141, rfl⟩
abbrev main_while0b_v82 : Ref sig .tc := ⟨.hbm, 142, rfl⟩
abbrev main_while0b_v83 : Ref sig .tc := ⟨.hbm, 143, rfl⟩
abbrev main_while0b_v84 : Ref sig .tc := ⟨.hbm, 144, rfl⟩
abbrev main_while0b_v85 : Ref sig .tc := ⟨.hbm, 145, rfl⟩
abbrev main_while0b_v86 : Ref sig .tc := ⟨.hbm, 146, rfl⟩
abbrev main_while0b_v87 : Ref sig .tc := ⟨.hbm, 147, rfl⟩
abbrev main_while0b_v88 : Ref sig .tc := ⟨.hbm, 148, rfl⟩
abbrev main_while0b_v89 : Ref sig .tc := ⟨.hbm, 149, rfl⟩
abbrev main_while0b_v90 : Ref sig .tc := ⟨.hbm, 150, rfl⟩
abbrev main_while0b_v91 : Ref sig .tc := ⟨.hbm, 151, rfl⟩
abbrev main_while0b_v92 : Ref sig .tc := ⟨.hbm, 152, rfl⟩
abbrev main_while0b_v93 : Ref sig .tc := ⟨.hbm, 153, rfl⟩
abbrev main_while0b_v94 : Ref sig .tc := ⟨.hbm, 154, rfl⟩
abbrev main_while0b_v95 : Ref sig .tc := ⟨.hbm, 155, rfl⟩
abbrev main_while0b_v96 : Ref sig .tc := ⟨.hbm, 156, rfl⟩
abbrev main_while0b_v97 : Ref sig .tc := ⟨.hbm, 157, rfl⟩
abbrev main_while0b_v98 : Ref sig .tc := ⟨.hbm, 158, rfl⟩
abbrev main_while0b_v99 : Ref sig .tc := ⟨.hbm, 159, rfl⟩
abbrev main_while0b_v100 : Ref sig .tc := ⟨.hbm, 160, rfl⟩
abbrev main_while0b_v101 : Ref sig .tc := ⟨.hbm, 161, rfl⟩
abbrev main_while0b_v102 : Ref sig .tc := ⟨.hbm, 162, rfl⟩
abbrev main_while0b_v103 : Ref sig .tc := ⟨.hbm, 163, rfl⟩
abbrev main_while0b_call8_v0 : Ref sig .tc := ⟨.hbm, 164, rfl⟩
abbrev main_while0b_call8_v1 : Ref sig .tc := ⟨.hbm, 165, rfl⟩
abbrev main_while0b_call8_cst : Ref sig .tc := ⟨.hbm, 166, rfl⟩
abbrev main_while0b_call8_v2 : Ref sig .tc := ⟨.hbm, 167, rfl⟩
abbrev main_while0b_call8_v3 : Ref sig .tc := ⟨.hbm, 168, rfl⟩
abbrev main_while0b_call8_cst_0 : Ref sig .tc := ⟨.hbm, 169, rfl⟩
abbrev main_while0b_call8_v4 : Ref sig .tc := ⟨.hbm, 170, rfl⟩
abbrev main_while0b_call8_v5 : Ref sig .tc := ⟨.hbm, 171, rfl⟩
abbrev main_while0b_v104 : Ref sig .tc := ⟨.hbm, 172, rfl⟩
abbrev main_while0b_v105 : Ref sig .tc := ⟨.hbm, 173, rfl⟩
abbrev main_while0b_call9_v0 : Ref sig .tc := ⟨.hbm, 174, rfl⟩
abbrev main_while0b_call9_c : Ref sig .tc := ⟨.hbm, 175, rfl⟩
abbrev main_while0b_call9_c_0 : Ref sig .tc := ⟨.hbm, 176, rfl⟩
abbrev main_while0b_v106 : Ref sig .tc := ⟨.hbm, 177, rfl⟩
abbrev main_while0b_c_14 : Ref sig .tc := ⟨.hbm, 178, rfl⟩
abbrev main_while0b_v107 : Ref sig .tc := ⟨.hbm, 179, rfl⟩
abbrev main_v71 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩

abbrev nD : Nat := 1
abbrev τ : Topo := Topo.v7x

variable {F : FTy → Type} [FloatOps F]

abbrev main_while0_count : Scf.Loop 32 := ⟨0#32, 2048#32, 1#32⟩
-- ==== Proof.Body.lean ====
/-
  One grid point of the kernel, run. The body reads eleven input blocks and writes one output block; it keeps two
  things from point to point in scratch: the last rows of the projected sequence (`sc0`, the convolution's halo) and
  the scan state (`sc3`). The other two scratch buffers are written before they are read at every point. The body
  branches on whether the chunk is the first of its row, so it is run twice, once per branch; what each run leaves in
  the output block and in the two carried buffers is found by the run, as a function of the blocks and of what the
  two carried buffers held.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The proof's resource algebra: the frame kit's. -/
local notation "𝕄" => MT nD τ sig Unit (Elt F) ℕ (UR sig nD τ) ℕ

/-- The program's loops need no variant: each is counted. -/
abbrev 𝒱₀ : Variants := Variants.none

/-- The halo buffer: eight rows before a chunk and the chunk's 128 rows of the projected sequence. -/
abbrev sc0 : Memref sig .tc .vmem S136x1024 .f32 := Memref.whole cc0_scratch0
/-- The decay factors of a chunk. -/
abbrev sc1 : Memref sig .tc .vmem S128x16x1024 .f32 := Memref.whole cc0_scratch1
/-- The increments of a chunk, overwritten by the scan's states. -/
abbrev sc2 : Memref sig .tc .vmem S128x16x1024 .f32 := Memref.whole cc0_scratch2
/-- The scan state carried from chunk to chunk. -/
abbrev sc3 : Memref sig .tc .vmem S16x1024 .f32 := Memref.whole cc0_scratch3

/-- The condition the body branches on: the chunk is the first of its row. -/
abbrev isFirst (i : grid0.Coords) : Prop :=
  Scalar.cmpi .ne (Scalar.extui (Scalar.cmpi .eq (BitVec.ofNat 32 (i 1).val) 0#32) : BitVec 32) 0#32 = 1#1

/-- The eleven input blocks, each whole in its staging buffer. -/
def inputs (c : Dev nD)
  (M0 : Memref sig .tc .vmem S1x128x512 .f32) (M1 : Memref sig .tc .vmem S1x512 .f32)
  (M2 : Memref sig .tc .vmem S512x2048 .f32) (M3 : Memref sig .tc .vmem S4x1024 .f32)
  (M4 : Memref sig .tc .vmem S1x1024 .f32) (M5 : Memref sig .tc .vmem S1024x64 .f32)
  (M6 : Memref sig .tc .vmem S32x1024 .f32) (M7 : Memref sig .tc .vmem S1x1024 .f32)
  (M8 : Memref sig .tc .vmem S16x1024 .f32) (M9 : Memref sig .tc .vmem S1x1024 .f32)
  (M10 : Memref sig .tc .vmem S1024x512 .f32)
  (x : Vec F S1x128x512 .f32) (nw : Vec F S1x512 .f32) (ip : Vec F S512x2048 .f32) (cw : Vec F S4x1024 .f32)
  (cb : Vec F S1x1024 .f32) (xp : Vec F S1024x64 .f32) (dp : Vec F S32x1024 .f32) (db : Vec F S1x1024 .f32)
  (al : Vec F S16x1024 .f32) (dd : Vec F S1x1024 .f32) (op : Vec F S1024x512 .f32) : sProp 𝕄 :=
  iprop(owns (c : Thread nD τ) M0 fullShare x
    ∗ owns (c : Thread nD τ) M1 fullShare nw
    ∗ owns (c : Thread nD τ) M2 fullShare ip
    ∗ owns (c : Thread nD τ) M3 fullShare cw
    ∗ owns (c : Thread nD τ) M4 fullShare cb
    ∗ owns (c : Thread nD τ) M5 fullShare xp
    ∗ owns (c : Thread nD τ) M6 fullShare dp
    ∗ owns (c : Thread nD τ) M7 fullShare db
    ∗ owns (c : Thread nD τ) M8 fullShare al
    ∗ owns (c : Thread nD τ) M9 fullShare dd
    ∗ owns (c : Thread nD τ) M10 fullShare op)

/-- A run of the body from given input blocks, with `P0` and `P3` held of the halo and state buffers: what it leaves in
    the halo buffer (`u`), in the state buffer (`hs`) and in the output block (`y`), with the proof that it does, for any continuation. -/
abbrev RunTy (c : Dev nD) (i : grid0.Coords)
  (M0 : Memref sig .tc .vmem S1x128x512 .f32) (h0 : M0.IsWhole)
  (M1 : Memref sig .tc .vmem S1x512 .f32) (h1 : M1.IsWhole)
  (M2 : Memref sig .tc .vmem S512x2048 .f32) (h2 : M2.IsWhole)
  (M3 : Memref sig .tc .vmem S4x1024 .f32) (h3 : M3.IsWhole)
  (M4 : Memref sig .tc .vmem S1x1024 .f32) (h4 : M4.IsWhole)
  (M5 : Memref sig .tc .vmem S1024x64 .f32) (h5 : M5.IsWhole)
  (M6 : Memref sig .tc .vmem S32x1024 .f32) (h6 : M6.IsWhole)
  (M7 : Memref sig .tc .vmem S1x1024 .f32) (h7 : M7.IsWhole)
  (M8 : Memref sig .tc .vmem S16x1024 .f32) (h8 : M8.IsWhole)
  (M9 : Memref sig .tc .vmem S1x1024 .f32) (h9 : M9.IsWhole)
  (M10 : Memref sig .tc .vmem S1024x512 .f32) (h10 : M10.IsWhole)
  (M11 : Memref sig .tc .vmem S1x128x512 .f32) (h11 : M11.IsWhole)
  (x : Vec F S1x128x512 .f32) (nw : Vec F S1x512 .f32) (ip : Vec F S512x2048 .f32) (cw : Vec F S4x1024 .f32)
  (cb : Vec F S1x1024 .f32) (xp : Vec F S1024x64 .f32) (dp : Vec F S32x1024 .f32) (db : Vec F S1x1024 .f32)
  (al : Vec F S16x1024 .f32) (dd : Vec F S1x1024 .f32) (op : Vec F S1024x512 .f32)
  (P0 P3 : sProp 𝕄) : Type _ :=
    Σ' (u : Vec F S136x1024 .f32) (hs : Vec F S16x1024 .f32), { y : Vec F S1x128x512 .f32 //
      ∀ (E : Set ℕ) (K : PUnit → sProp 𝕄),
        iprop(inputs c M0 M1 M2 M3 M4 M5 M6 M7 M8 M9 M10 x nw ip cw cb xp dp db al dd op ∗ (∃ d, owns (c : Thread nD τ) M11 fullShare d)
            ∗ P0 ∗ (∃ d, owns (c : Thread nD τ) sc1 fullShare d) ∗ (∃ d, owns (c : Thread nD τ) sc2 fullShare d) ∗ P3
            ∗ (iprop(inputs c M0 M1 M2 M3 M4 M5 M6 M7 M8 M9 M10 x nw ip cw cb xp dp db al dd op ∗ owns (c : Thread nD τ) M11 fullShare y
                ∗ owns (c : Thread nD τ) sc0 fullShare u ∗ (∃ d, owns (c : Thread nD τ) sc1 fullShare d)
                ∗ (∃ d, owns (c : Thread nD τ) sc2 fullShare d) ∗ owns (c : Thread nD τ) sc3 fullShare hs) -∗ K ⟨⟩))
          ⊢ wp frame (wpE (defs₀ (F := F)) 𝒱₀ c none) E
              (cc0_mamba_layer i M0 h0 M1 h1 M2 h2 M3 h3 M4 h4 M5 h5 M6 h6 M7 h7 M8 h8 M9 h9 M10 h10 M11 h11
                sc0 (Memref.isWhole_whole _) sc1 (Memref.isWhole_whole _) sc2 (Memref.isWhole_whole _)
                sc3 (Memref.isWhole_whole _)) K }

set_option maxHeartbeats 4000000 in
/-- The body's run at a chunk that is not the first of its row: the carried halo and state are used. -/
def kernelRunN (c : Dev nD) (i : grid0.Coords) (hc : ¬ isFirst i)
  (M0 : Memref sig .tc .vmem S1x128x512 .f32) (h0 : M0.IsWhole)
  (M1 : Memref sig .tc .vmem S1x512 .f32) (h1 : M1.IsWhole)
  (M2 : Memref sig .tc .vmem S512x2048 .f32) (h2 : M2.IsWhole)
  (M3 : Memref sig .tc .vmem S4x1024 .f32) (h3 : M3.IsWhole)
  (M4 : Memref sig .tc .vmem S1x1024 .f32) (h4 : M4.IsWhole)
  (M5 : Memref sig .tc .vmem S1024x64 .f32) (h5 : M5.IsWhole)
  (M6 : Memref sig .tc .vmem S32x1024 .f32) (h6 : M6.IsWhole)
  (M7 : Memref sig .tc .vmem S1x1024 .f32) (h7 : M7.IsWhole)
  (M8 : Memref sig .tc .vmem S16x1024 .f32) (h8 : M8.IsWhole)
  (M9 : Memref sig .tc .vmem S1x1024 .f32) (h9 : M9.IsWhole)
  (M10 : Memref sig .tc .vmem S1024x512 .f32) (h10 : M10.IsWhole)
  (M11 : Memref sig .tc .vmem S1x128x512 .f32) (h11 : M11.IsWhole)
  (x : Vec F S1x128x512 .f32) (nw : Vec F S1x512 .f32) (ip : Vec F S512x2048 .f32) (cw : Vec F S4x1024 .f32)
  (cb : Vec F S1x1024 .f32) (xp : Vec F S1024x64 .f32) (dp : Vec F S32x1024 .f32) (db : Vec F S1x1024 .f32)
  (al : Vec F S16x1024 .f32) (dd : Vec F S1x1024 .f32) (op : Vec F S1024x512 .f32)
  (f0 : Vec F S136x1024 .f32) (f3 : Vec F S16x1024 .f32) :
    RunTy c i M0 h0 M1 h1 M2 h2 M3 h3 M4 h4 M5 h5 M6 h6 M7 h7 M8 h8 M9 h9 M10 h10 M11 h11 x nw ip cw cb xp dp db al dd op
      (owns (c : Thread nD τ) sc0 fullShare f0) (owns (c : Thread nD τ) sc3 fullShare f3) := by
  refine ⟨?_, ?_, ?_, fun E K => ?run⟩
  case run =>
    unfold inputs owns
    iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩⟩, ⟨%d11, %g11, -, H11⟩, ⟨%g12, %hg12, H12⟩,
      ⟨%d13, %g13, -, H13⟩, ⟨%d14, %g14, -, H14⟩, ⟨%g15, %hg15, H15⟩, Hk⟩
    obtain rfl := h0.eq_unread hg0; obtain rfl := h1.eq_unread hg1; obtain rfl := h2.eq_unread hg2; obtain rfl := h3.eq_unread hg3; obtain rfl := h4.eq_unread hg4; obtain rfl := h5.eq_unread hg5
    obtain rfl := h6.eq_unread hg6; obtain rfl := h7.eq_unread hg7; obtain rfl := h8.eq_unread hg8; obtain rfl := h9.eq_unread hg9; obtain rfl := h10.eq_unread hg10
    obtain rfl := (Memref.isWhole_whole cc0_scratch0).eq_unread hg12
    obtain rfl := (Memref.isWhole_whole cc0_scratch3).eq_unread hg15
    sl_unfold [cc0_mamba_layer]
    sl_exec_parts! (disch := exact hc)
    sl_step
    iapply Hk
    isplitl [H0 H1 H2 H3 H4 H5 H6 H7 H8 H9 H10]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      iexists _; isplitr; · ipureintro; exact h10.read_unread _
      iexact H10
    isplitl [H11]
    · iexists _; isplitr; swap; · iexact H11
      ipureintro; rfl
    isplitl [H12]
    · iexists _; isplitr; swap; · iexact H12
      ipureintro; rfl
    isplitl [H13]
    · iexists _, _; isplitr; swap; · iexact H13
      ipureintro; rfl
    isplitl [H14]
    · iexists _, _; isplitr; swap; · iexact H14
      ipureintro; rfl
    iexists _; isplitr; swap; · iexact H15
    ipureintro; rfl

set_option maxHeartbeats 4000000 in
/-- The body's run at the first chunk of a row: the halo and the state are zeroed first. -/
def kernelRunF (c : Dev nD) (i : grid0.Coords) (hc : isFirst i)
  (M0 : Memref sig .tc .vmem S1x128x512 .f32) (h0 : M0.IsWhole)
  (M1 : Memref sig .tc .vmem S1x512 .f32) (h1 : M1.IsWhole)
  (M2 : Memref sig .tc .vmem S512x2048 .f32) (h2 : M2.IsWhole)
  (M3 : Memref sig .tc .vmem S4x1024 .f32) (h3 : M3.IsWhole)
  (M4 : Memref sig .tc .vmem S1x1024 .f32) (h4 : M4.IsWhole)
  (M5 : Memref sig .tc .vmem S1024x64 .f32) (h5 : M5.IsWhole)
  (M6 : Memref sig .tc .vmem S32x1024 .f32) (h6 : M6.IsWhole)
  (M7 : Memref sig .tc .vmem S1x1024 .f32) (h7 : M7.IsWhole)
  (M8 : Memref sig .tc .vmem S16x1024 .f32) (h8 : M8.IsWhole)
  (M9 : Memref sig .tc .vmem S1x1024 .f32) (h9 : M9.IsWhole)
  (M10 : Memref sig .tc .vmem S1024x512 .f32) (h10 : M10.IsWhole)
  (M11 : Memref sig .tc .vmem S1x128x512 .f32) (h11 : M11.IsWhole)
  (x : Vec F S1x128x512 .f32) (nw : Vec F S1x512 .f32) (ip : Vec F S512x2048 .f32) (cw : Vec F S4x1024 .f32)
  (cb : Vec F S1x1024 .f32) (xp : Vec F S1024x64 .f32) (dp : Vec F S32x1024 .f32) (db : Vec F S1x1024 .f32)
  (al : Vec F S16x1024 .f32) (dd : Vec F S1x1024 .f32) (op : Vec F S1024x512 .f32) :
    RunTy c i M0 h0 M1 h1 M2 h2 M3 h3 M4 h4 M5 h5 M6 h6 M7 h7 M8 h8 M9 h9 M10 h10 M11 h11 x nw ip cw cb xp dp db al dd op
      iprop(∃ d, owns (c : Thread nD τ) sc0 fullShare d) iprop(∃ d, owns (c : Thread nD τ) sc3 fullShare d) := by
  refine ⟨?_, ?_, ?_, fun E K => ?run⟩
  case run =>
    unfold inputs owns
    iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩⟩, ⟨%d11, %g11, -, H11⟩, ⟨%d12, %g12, -, H12⟩,
      ⟨%d13, %g13, -, H13⟩, ⟨%d14, %g14, -, H14⟩, ⟨%d15, %g15, -, H15⟩, Hk⟩
    obtain rfl := h0.eq_unread hg0; obtain rfl := h1.eq_unread hg1; obtain rfl := h2.eq_unread hg2; obtain rfl := h3.eq_unread hg3; obtain rfl := h4.eq_unread hg4; obtain rfl := h5.eq_unread hg5
    obtain rfl := h6.eq_unread hg6; obtain rfl := h7.eq_unread hg7; obtain rfl := h8.eq_unread hg8; obtain rfl := h9.eq_unread hg9; obtain rfl := h10.eq_unread hg10
    sl_unfold [cc0_mamba_layer]
    sl_exec_parts! (disch := exact hc)
    sl_step
    iapply Hk
    isplitl [H0 H1 H2 H3 H4 H5 H6 H7 H8 H9 H10]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      iexists _; isplitr; · ipureintro; exact h10.read_unread _
      iexact H10
    isplitl [H11]
    · iexists _; isplitr; swap; · iexact H11
      ipureintro; rfl
    isplitl [H12]
    · iexists _; isplitr; swap; · iexact H12
      ipureintro; rfl
    isplitl [H13]
    · iexists _, _; isplitr; swap; · iexact H13
      ipureintro; rfl
    isplitl [H14]
    · iexists _, _; isplitr; swap; · iexact H14
      ipureintro; rfl
    iexists _; isplitr; swap; · iexact H15
    ipureintro; rfl

end Cert.KernelIdeal.Hand

end
-- ==== Proof.Run.lean ====
/-
  The kernel's run over its grid. What the body leaves at a point (`stepAt`) is what its run finds from the point's
  input blocks and the carried halo and state; `stateAt` follows the two carried buffers from point to point. From
  these: the pipeline's proof data, its body obligation, and the run of the whole program.
-/
module

public import proofs.«01_k».proof.Proof.Body
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-! ## The staging buffers at a point are whole -/

/-- The stage of the input is a whole buffer. -/
abbrev hs0_0 (t : Fin cfg0.N) : (st0_0 t).IsWhole := hstage0_0 ((cfg0.slots t 0).cast nbuf0_0)
/-- The stage of the normalisation weights is a whole buffer. -/
abbrev hs0_1 (t : Fin cfg0.N) : (st0_1 t).IsWhole := hstage0_1 ((cfg0.slots t 1).cast nbuf0_1)
/-- The stage of the input projection is a whole buffer. -/
abbrev hs0_2 (t : Fin cfg0.N) : (st0_2 t).IsWhole := hstage0_2 ((cfg0.slots t 2).cast nbuf0_2)
/-- The stage of the convolution weights is a whole buffer. -/
abbrev hs0_3 (t : Fin cfg0.N) : (st0_3 t).IsWhole := hstage0_3 ((cfg0.slots t 3).cast nbuf0_3)
/-- The stage of the convolution bias is a whole buffer. -/
abbrev hs0_4 (t : Fin cfg0.N) : (st0_4 t).IsWhole := hstage0_4 ((cfg0.slots t 4).cast nbuf0_4)
/-- The stage of the low-rank projection is a whole buffer. -/
abbrev hs0_5 (t : Fin cfg0.N) : (st0_5 t).IsWhole := hstage0_5 ((cfg0.slots t 5).cast nbuf0_5)
/-- The stage of the step-size projection is a whole buffer. -/
abbrev hs0_6 (t : Fin cfg0.N) : (st0_6 t).IsWhole := hstage0_6 ((cfg0.slots t 6).cast nbuf0_6)
/-- The stage of the step-size bias is a whole buffer. -/
abbrev hs0_7 (t : Fin cfg0.N) : (st0_7 t).IsWhole := hstage0_7 ((cfg0.slots t 7).cast nbuf0_7)
/-- The stage of the decay rates is a whole buffer. -/
abbrev hs0_8 (t : Fin cfg0.N) : (st0_8 t).IsWhole := hstage0_8 ((cfg0.slots t 8).cast nbuf0_8)
/-- The stage of the direct weights is a whole buffer. -/
abbrev hs0_9 (t : Fin cfg0.N) : (st0_9 t).IsWhole := hstage0_9 ((cfg0.slots t 9).cast nbuf0_9)
/-- The stage of the output projection is a whole buffer. -/
abbrev hs0_10 (t : Fin cfg0.N) : (st0_10 t).IsWhole := hstage0_10 ((cfg0.slots t 10).cast nbuf0_10)
/-- The stage of the output is a whole buffer. -/
abbrev hs0_11 (t : Fin cfg0.N) : (st0_11 t).IsWhole := hstage0_11 ((cfg0.slots t 11).cast nbuf0_11)

/-! ## What a point leaves -/

/-- What the first chunk of a row leaves: the run with the halo and the state zeroed. -/
def runF (c : Dev nD) (t : Fin cfg0.N) (h : isFirst (grid0.coords t)) :=
  kernelRunF (F := F) c (grid0.coords t) h (st0_0 t) (hs0_0 t) (st0_1 t) (hs0_1 t) (st0_2 t) (hs0_2 t) (st0_3 t) (hs0_3 t) (st0_4 t) (hs0_4 t)
      (st0_5 t) (hs0_5 t) (st0_6 t) (hs0_6 t) (st0_7 t) (hs0_7 t) (st0_8 t) (hs0_8 t) (st0_9 t) (hs0_9 t)
      (st0_10 t) (hs0_10 t) (st0_11 t) (hs0_11 t)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t)

/-- What a later chunk leaves: the run from the carried halo `f0` and state `f3`. -/
def runN (c : Dev nD) (t : Fin cfg0.N) (h : ¬ isFirst (grid0.coords t)) (f0 : Vec F S136x1024 .f32) (f3 : Vec F S16x1024 .f32) :=
  kernelRunN (F := F) c (grid0.coords t) h (st0_0 t) (hs0_0 t) (st0_1 t) (hs0_1 t) (st0_2 t) (hs0_2 t) (st0_3 t) (hs0_3 t) (st0_4 t) (hs0_4 t)
      (st0_5 t) (hs0_5 t) (st0_6 t) (hs0_6 t) (st0_7 t) (hs0_7 t) (st0_8 t) (hs0_8 t) (st0_9 t) (hs0_9 t)
      (st0_10 t) (hs0_10 t) (st0_11 t) (hs0_11 t)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) f0 f3

/-- What point `t` leaves in the halo buffer, in the state buffer and in the output block, from the carried pair `s`. -/
def stepAt (c : Dev nD) (t : Fin cfg0.N) (s : Vec F S136x1024 .f32 × Vec F S16x1024 .f32) :
    Vec F S136x1024 .f32 × Vec F S16x1024 .f32 × Vec F S1x128x512 .f32 :=
  if h : isFirst (grid0.coords t) then ((runF m c t h).1, (runF m c t h).2.1, (runF m c t h).2.2.1)
  else ((runN m c t h s.1 s.2).1, (runN m c t h s.1 s.2).2.1, (runN m c t h s.1 s.2).2.2.1)

/-- In a row's first chunk the point runs the first case. -/
theorem stepAt_first (c : Dev nD) (t : Fin cfg0.N) (s) (h : isFirst (grid0.coords t)) :
    stepAt m c t s = ((runF m c t h).1, (runF m c t h).2.1, (runF m c t h).2.2.1) := by unfold stepAt; rw [dif_pos h]

/-- In a later chunk the point runs the second case. -/
theorem stepAt_next (c : Dev nD) (t : Fin cfg0.N) (s) (h : ¬ isFirst (grid0.coords t)) :
    stepAt m c t s = ((runN m c t h s.1 s.2).1, (runN m c t h s.1 s.2).2.1, (runN m c t h s.1 s.2).2.2.1) := by
  unfold stepAt; rw [dif_neg h]

/-- The carried halo and state before point `n` (before the first point: zeros, which nothing reads). -/
def stateAt (c : Dev nD) : ℕ → Vec F S136x1024 .f32 × Vec F S16x1024 .f32
  | 0 => (constant S136x1024 .f32 0#32, constant S16x1024 .f32 0#32)
  | n + 1 => if h : n < cfg0.N then
      ((stepAt m c ⟨n, h⟩ (stateAt c n)).1, (stepAt m c ⟨n, h⟩ (stateAt c n)).2.1) else stateAt c n

/-- The carried pair after a point is what the point leaves. -/
theorem stateAt_succ (c : Dev nD) (t : Fin cfg0.N) :
    stateAt m c (t.val + 1) = ((stepAt m c t (stateAt m c t.val)).1, (stepAt m c t (stateAt m c t.val)).2.1) := by
  rw [stateAt, dif_pos t.isLt]

/-- What point `t` leaves in its output block. -/
def outAt (c : Dev nD) (t : Fin cfg0.N) : Vec F S1x128x512 .f32 := (stepAt m c t (stateAt m c t.val)).2.2

/-- The first point is the first chunk of its row. -/
theorem first_of_zero : ∀ t : Fin cfg0.N, t.val = 0 → isFirst (grid0.coords t) :=
  (by decide +kernel : ∀ t : Fin grid0.N, t.val = 0 → isFirst (grid0.coords t))

/-! ## The proof data -/

/-- Between points: the four scratch buffers at some contents, the halo and the state at `stateAt` once a point has
    run, and the generator register at some state. -/
def carried (c : Dev nD) (n : ℕ) : sProp 𝕄 :=
  iprop(∃ (f0 : Vec F S136x1024 .f32) (f1 f2 : Vec F S128x16x1024 .f32) (f3 : Vec F S16x1024 .f32),
    ⌜n ≠ 0 → f0 = (stateAt m c n).1 ∧ f3 = (stateAt m c n).2⌝
    ∗ owns (c : Thread nD τ) sc0 fullShare f0 ∗ owns (c : Thread nD τ) sc1 fullShare f1
    ∗ owns (c : Thread nD τ) sc2 fullShare f2 ∗ owns (c : Thread nD τ) sc3 fullShare f3 ∗ ∃ r, prngReg c r)

/-- The arrays as the region finds them; each input's buffer at its block; the output's at `outAt`; between points
    `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ n := carried m c n.val
  q _ := fullShare
  owed _ := 0

/-- Each array starts as it is at the launch's entry. -/
theorem A_eq (c : Dev nD) (w : Fin cfg0.W) : (dats m 0 c).A w = V m c (Pipeline.arrRef spec0 w) := rfl
/-- What a point leaves in the block of the input. -/
theorem after0_0 (c : Dev nD) (t : Fin cfg0.N) : (dats m 0 c).after 0 t = iblk m c 0 t := by dsimp only [dats]
/-- What a point leaves in the block of the normalisation weights. -/
theorem after0_1 (c : Dev nD) (t : Fin cfg0.N) : (dats m 0 c).after 1 t = iblk m c 1 t := by dsimp only [dats]
/-- What a point leaves in the block of the input projection. -/
theorem after0_2 (c : Dev nD) (t : Fin cfg0.N) : (dats m 0 c).after 2 t = iblk m c 2 t := by dsimp only [dats]
/-- What a point leaves in the block of the convolution weights. -/
theorem after0_3 (c : Dev nD) (t : Fin cfg0.N) : (dats m 0 c).after 3 t = iblk m c 3 t := by dsimp only [dats]
/-- What a point leaves in the block of the convolution bias. -/
theorem after0_4 (c : Dev nD) (t : Fin cfg0.N) : (dats m 0 c).after 4 t = iblk m c 4 t := by dsimp only [dats]
/-- What a point leaves in the block of the low-rank projection. -/
theorem after0_5 (c : Dev nD) (t : Fin cfg0.N) : (dats m 0 c).after 5 t = iblk m c 5 t := by dsimp only [dats]
/-- What a point leaves in the block of the step-size projection. -/
theorem after0_6 (c : Dev nD) (t : Fin cfg0.N) : (dats m 0 c).after 6 t = iblk m c 6 t := by dsimp only [dats]
/-- What a point leaves in the block of the step-size bias. -/
theorem after0_7 (c : Dev nD) (t : Fin cfg0.N) : (dats m 0 c).after 7 t = iblk m c 7 t := by dsimp only [dats]
/-- What a point leaves in the block of the decay rates. -/
theorem after0_8 (c : Dev nD) (t : Fin cfg0.N) : (dats m 0 c).after 8 t = iblk m c 8 t := by dsimp only [dats]
/-- What a point leaves in the block of the direct weights. -/
theorem after0_9 (c : Dev nD) (t : Fin cfg0.N) : (dats m 0 c).after 9 t = iblk m c 9 t := by dsimp only [dats]
/-- What a point leaves in the block of the output projection. -/
theorem after0_10 (c : Dev nD) (t : Fin cfg0.N) : (dats m 0 c).after 10 t = iblk m c 10 t := by dsimp only [dats]
/-- What a point leaves in the block of the output. -/
theorem after0_11 (c : Dev nD) (t : Fin cfg0.N) : (dats m 0 c).after 11 t = outAt m c t := by dsimp only [dats]

/-! Each input's staging buffer holds its block when the body runs. -/
theorem before0_0 (c : Dev nD) (t : Fin cfg0.N) (d) : (dats m 0 c).before 0 t d = iblk m c 0 t :=
  before0_0_of m (dats m 0 c) (A_eq m c 0) (after0_0 m c) t d
/-- What a point finds in the block of the normalisation weights. -/
theorem before0_1 (c : Dev nD) (t : Fin cfg0.N) (d) : (dats m 0 c).before 1 t d = iblk m c 1 t :=
  before0_1_of m (dats m 0 c) (A_eq m c 1) (after0_1 m c) t d
/-- What a point finds in the block of the input projection. -/
theorem before0_2 (c : Dev nD) (t : Fin cfg0.N) (d) : (dats m 0 c).before 2 t d = iblk m c 2 t :=
  before0_2_of m (dats m 0 c) (A_eq m c 2) (after0_2 m c) t d
/-- What a point finds in the block of the convolution weights. -/
theorem before0_3 (c : Dev nD) (t : Fin cfg0.N) (d) : (dats m 0 c).before 3 t d = iblk m c 3 t :=
  before0_3_of m (dats m 0 c) (A_eq m c 3) (after0_3 m c) t d
/-- What a point finds in the block of the convolution bias. -/
theorem before0_4 (c : Dev nD) (t : Fin cfg0.N) (d) : (dats m 0 c).before 4 t d = iblk m c 4 t :=
  before0_4_of m (dats m 0 c) (A_eq m c 4) (after0_4 m c) t d
/-- What a point finds in the block of the low-rank projection. -/
theorem before0_5 (c : Dev nD) (t : Fin cfg0.N) (d) : (dats m 0 c).before 5 t d = iblk m c 5 t :=
  before0_5_of m (dats m 0 c) (A_eq m c 5) (after0_5 m c) t d
/-- What a point finds in the block of the step-size projection. -/
theorem before0_6 (c : Dev nD) (t : Fin cfg0.N) (d) : (dats m 0 c).before 6 t d = iblk m c 6 t :=
  before0_6_of m (dats m 0 c) (A_eq m c 6) (after0_6 m c) t d
/-- What a point finds in the block of the step-size bias. -/
theorem before0_7 (c : Dev nD) (t : Fin cfg0.N) (d) : (dats m 0 c).before 7 t d = iblk m c 7 t :=
  before0_7_of m (dats m 0 c) (A_eq m c 7) (after0_7 m c) t d
/-- What a point finds in the block of the decay rates. -/
theorem before0_8 (c : Dev nD) (t : Fin cfg0.N) (d) : (dats m 0 c).before 8 t d = iblk m c 8 t :=
  before0_8_of m (dats m 0 c) (A_eq m c 8) (after0_8 m c) t d
/-- What a point finds in the block of the direct weights. -/
theorem before0_9 (c : Dev nD) (t : Fin cfg0.N) (d) : (dats m 0 c).before 9 t d = iblk m c 9 t :=
  before0_9_of m (dats m 0 c) (A_eq m c 9) (after0_9 m c) t d
/-- What a point finds in the block of the output projection. -/
theorem before0_10 (c : Dev nD) (t : Fin cfg0.N) (d) : (dats m 0 c).before 10 t d = iblk m c 10 t :=
  before0_10_of m (dats m 0 c) (A_eq m c 10) (after0_10 m c) t d

/-! ## The invariant at the ends -/

/-- The class invariant, buffer by buffer. -/
theorem PhiA_eq (c : Dev nD) :
    (Pipeline.ΦA spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d))
          ∗ ∃ r, prngReg c r) := by
  unfold Pipeline.ΦA
  rw [scopedRest0_eq]; simp only [sc0, sc1, sc2, sc3, owns_whole]; try rfl

/-- Before the first point the scratch holds anything. -/
theorem enter (c : Dev nD) : Pipeline.ΦA spec0 c ⊢ (carried m c 0 : sProp 𝕄) := by
  rw [PhiA_eq]; unfold carried
  iintro ⟨⟨⟨%d0, S0⟩, ⟨%d1, S1⟩, ⟨%d2, S2⟩, ⟨%d3, S3⟩⟩, Hg⟩
  iexists d0, d1, d2, d3
  isplitr; · ipureintro; exact fun h => absurd rfl h
  isplitl [S0]; · iexact S0
  isplitl [S1]; · iexact S1
  isplitl [S2]; · iexact S2
  isplitl [S3]; · iexact S3
  iexact Hg

/-- After the last point what the scratch holds is forgotten. -/
theorem leave (c : Dev nD) (n : ℕ) : (carried m c n : sProp 𝕄) ⊢ Pipeline.ΦA spec0 c := by
  rw [PhiA_eq]; unfold carried
  iintro ⟨%f0, %f1, %f2, %f3, -, S0, S1, S2, S3, Hg⟩
  isplitl [S0 S1 S2 S3]
  · isplitl [S0]; · iexists _; iexact S0
    isplitl [S1]; · iexists _; iexact S1
    isplitl [S2]; · iexists _; iexact S2
    iexists _; iexact S3
  iexact Hg

/-! ## The body obligation -/

/-- The body table's row at a point is the body on the point's staging buffers. -/
theorem defs₀_row (t : Fin cfg0.N) : defs₀ (F := F) .tc cfg0.body (cfg0.bodyArgs t (cfg0.slots t)) = bodyAt0 t := by
  unfold defs₀; rw [Defs.onTc_tc]

/-- What the body is called with at a point: the carried scratch, nothing owed, every input at its block, the output's
    buffer at anything. -/
def bodyPre (c : Dev nD) (t : Fin cfg0.N) : sProp 𝕄 :=
  iprop(carried m c t.val ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t) ∗ (∃ d, owns (c : Thread nD τ) (st0_11 t) fullShare d))

/-- What the body returns: the scratch carried on, the inputs as they were, the output's buffer at `outAt`. -/
def bodyPost (c : Dev nD) (t : Fin cfg0.N) : sProp 𝕄 :=
  iprop(carried m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t) ∗ owns (c : Thread nD τ) (st0_11 t) fullShare (outAt m c t))

/-- The body at a point: whichever way the branch goes, the run of that branch. -/
theorem sound_body (c : Dev nD) (t : Fin cfg0.N) :
    bodyPre m c t ⊢ wp frame (wpE (defs₀ (F := F)) 𝒱₀ c none) Set.univ (bodyAt0 t) (fun _ => bodyPost m c t) := by
  have e0 := stateAt_succ m c t
  unfold bodyPre bodyPost bodyAt0 outAt
  by_cases h : isFirst (grid0.coords t)
  · rw [stepAt_first m c t _ h] at e0 ⊢
    unfold carried
    iintro ⟨⟨%f0, %f1, %f2, %f3, -, S0, S1, S2, S3, Hg⟩, Ho, H0, H1, H2, H3, H4, H5, H6, H7, H8, H9, H10, ⟨%d11, H11⟩⟩
    iapply ((runF m c t h).2.2.2 Set.univ _)
    isplitl [H0 H1 H2 H3 H4 H5 H6 H7 H8 H9 H10]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexists _; iexact H11
    isplitl [S0]; · iexists _; iexact S0
    isplitl [S1]; · iexists _; iexact S1
    isplitl [S2]; · iexists _; iexact S2
    isplitl [S3]; · iexists _; iexact S3
    unfold inputs
    iintro ⟨⟨H0, H1, H2, H3, H4, H5, H6, H7, H8, H9, H10⟩, H11, S0, ⟨%e1, S1⟩, ⟨%e2, S2⟩, S3⟩
    isplitl [S0 S1 S2 S3 Hg]
    · iexists _, _, _, _
      isplitr; swap
      · isplitl [S0]; · iexact S0
        isplitl [S1]; · iexact S1
        isplitl [S2]; · iexact S2
        isplitl [S3]; · iexact S3
        iexact Hg
      ipureintro; intro _
      exact ⟨by rw [e0], by rw [e0]⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have ht : t.val ≠ 0 := fun h0 => h (first_of_zero t h0)
    rw [stepAt_next m c t _ h] at e0 ⊢
    unfold carried
    iintro ⟨⟨%f0, %f1, %f2, %f3, %hf, S0, S1, S2, S3, Hg⟩, Ho, H0, H1, H2, H3, H4, H5, H6, H7, H8, H9, H10, ⟨%d11, H11⟩⟩
    obtain ⟨rfl, rfl⟩ := hf ht
    iapply ((runN m c t h (stateAt m c t.val).1 (stateAt m c t.val).2).2.2.2 Set.univ _)
    isplitl [H0 H1 H2 H3 H4 H5 H6 H7 H8 H9 H10]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexists _; iexact H11
    isplitl [S0]; · iexact S0
    isplitl [S1]; · iexists _; iexact S1
    isplitl [S2]; · iexists _; iexact S2
    isplitl [S3]; · iexact S3
    unfold inputs
    iintro ⟨⟨H0, H1, H2, H3, H4, H5, H6, H7, H8, H9, H10⟩, H11, S0, ⟨%e1, S1⟩, ⟨%e2, S2⟩, S3⟩
    isplitl [S0 S1 S2 S3 Hg]
    · iexists _, _, _, _
      isplitr; swap
      · isplitl [S0]; · iexact S0
        isplitl [S1]; · iexact S1
        isplitl [S2]; · iexact S2
        isplitl [S3]; · iexact S3
        iexact Hg
      ipureintro; intro _
      exact ⟨by rw [e0], by rw [e0]⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation. -/
theorem body_obligation (c : Dev nD) : BodyObligation (dats (F := F) m 0 c) (defs₀ (F := F)) 𝒱₀ () Set.univ := fun t => by
  rw [bigSep_W0, bigSep_W0, defs₀_row]
  refine triple_restated (sound_body m c t) rfl ?_ fun _ => ?_
  · unfold bodyPre
    rw [show (dats m 0 c).Φ t.castSucc = carried m c t.val from rfl]
    simp only [before0_0, before0_1, before0_2, before0_3, before0_4, before0_5, before0_6, before0_7, before0_8, before0_9, before0_10]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · unfold bodyPost
    rw [after0_0, after0_1, after0_2, after0_3, after0_4, after0_5, after0_6, after0_7, after0_8, after0_9, after0_10, after0_11]
    exact .rfl

-- the run's implicit arguments are found by unifying its conclusion with this statement, which takes unfolding plain
-- definitions in a metavariable's type
set_option backward.isDefEq.respectTransparency.types false in
/-- From any memory with zero counters every fair execution of the program ends, with every array of the pipeline at
    what the proof data say, every other buffer as the region found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => enter m c) (hout := fun c => leave m c _)

end Cert.KernelIdeal.Hand

end
-- ==== Proof.RefRun.lean ====
/-
  The reference's run as a scan. A valuation of the loop's buffers is read as a scan carry (`stateOf`); one trip of the
  loop is one `Step.step` of it, so the reference's result is what `Step.R_main_v77` makes of the carry after all 2048
  time steps (`scanAt`).
-/
module

public import proofs.«01_k».proof.Proof.Gen.ReferenceIdeal.Run
public import proofs.«01_k».proof.Proof.Gen.ReferenceIdeal.Step

@[expose] public section

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The scan carry a valuation of the loop's buffers holds. -/
def stateOf (V : Valuation τ sig (Elt F)) : Step.State F where
  main_v70_9 := V (Proc.devRef .tc main_v70_9)
  main_v70_8 := V (Proc.devRef .tc main_v70_8)
  main_v70_6 := V (Proc.devRef .tc main_v70_6)
  main_v70_5 := V (Proc.devRef .tc main_v70_5)
  main_v70_4 := V (Proc.devRef .tc main_v70_4)
  main_v70_3 := V (Proc.devRef .tc main_v70_3)
  main_v70_2 := V (Proc.devRef .tc main_v70_2)
  main_v70_1 := V (Proc.devRef .tc main_v70_1)
  main_v70_0 := V (Proc.devRef .tc main_v70_0)

/-- The carry the loop starts from. -/
abbrev startOf (m : (ℓ : Loc nD τ sig) → Buf (Elt F) ℓ) (c : Dev nD) : Step.State F :=
  Step.init (m ((c.tc : Thread nD τ).loc main_arg10)) (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9))

/-- The reference's scan carry before time step `n`. -/
def scanAt (m : (ℓ : Loc nD τ sig) → Buf (Elt F) ℓ) (c : Dev nD) : ℕ → Step.State F
  | 0 => startOf m c
  | n + 1 => Step.step n (scanAt m c n)

/-- The new recurrent state of a trip is the scan step's. -/
theorem trip_state (V : Valuation τ sig (Elt F)) (j : ℕ)
    (hj : V (Proc.devRef .tc main_v70_7) = constantI S_ 32 (BitVec.ofNat 32 j)) :
    step_main_v70_8 V = (Step.step j (stateOf V)).main_v70_8 := by
  unfold step_main_v70_8 res_main_while0b_v98
  simp only [res_main_while0b_v78, res_main_while0b_v81]
  rw [hj]
  rfl

/-- The outputs collected after a trip are the scan step's. -/
theorem trip_outputs (V : Valuation τ sig (Elt F)) (j : ℕ)
    (hj : V (Proc.devRef .tc main_v70_7) = constantI S_ 32 (BitVec.ofNat 32 j)) :
    step_main_v70_9 V = (Step.step j (stateOf V)).main_v70_9 := by
  unfold step_main_v70_9 res_main_while0b_v98
  simp only [res_main_while0b_v78, res_main_while0b_v81, res_main_while0b_v82]
  rw [hj]
  rfl

/-- A trip adds one to the counter. -/
theorem trip_counter (V : Valuation τ sig (Elt F)) (j : ℕ)
    (hj : V (Proc.devRef .tc main_v70_7) = constantI S_ 32 (BitVec.ofNat 32 j)) :
    step_main_v70_7 V = constantI S_ 32 (BitVec.ofNat 32 (j + 1)) := by
  unfold step_main_v70_7
  rw [hj]
  funext i
  exact (BitVec.ofNat_add j 1).symm

/-- A trip of the loop is a step of the carry. -/
theorem stateOf_trip (V : Valuation τ sig (Elt F)) (j : ℕ)
    (hj : V (Proc.devRef .tc main_v70_7) = constantI S_ 32 (BitVec.ofNat 32 j)) :
    stateOf (STEP V) = Step.step j (stateOf V) := by
  have h8 := (STEP_main_v70_8 V).trans (trip_state V j hj)
  have h9 := (STEP_main_v70_9 V).trans (trip_outputs V j hj)
  unfold stateOf at *
  rw [h8, h9, STEP_main_v70_0, STEP_main_v70_1, STEP_main_v70_2, STEP_main_v70_3, STEP_main_v70_4, STEP_main_v70_5,
    STEP_main_v70_6]
  rfl

variable (m : (ℓ : Loc nD τ sig) → Buf (Elt F) ℓ) (c : Dev nD)

set_option maxRecDepth 65536 in
set_option maxHeartbeats 1000000 in
/-- The loop starts from the carry the operations before it make. -/
theorem stateOf_entry : stateOf (entryContents preI m c) = startOf m c := by
  unfold stateOf
  congr 1 <;> (simp only [entryContents, afterL_cons, afterL_nil]; after_reads_simp) <;> rfl

set_option maxRecDepth 65536 in
set_option maxHeartbeats 1000000 in
/-- The loop's counter starts at zero. -/
theorem counter_entry :
    entryContents preI m c (Proc.devRef .tc main_v70_7) = constantI S_ 32 (BitVec.ofNat 32 0) := by
  (simp only [entryContents, afterL_cons, afterL_nil]; after_reads_simp) <;> rfl

/-- Before trip `k` the loop holds the scan carry before time step `k`, and its counter is `k`. -/
theorem trips : ∀ k : ℕ, stateOf (STEP^[k] (entryContents preI m c)) = scanAt m c k
    ∧ STEP^[k] (entryContents preI m c) (Proc.devRef .tc main_v70_7) = constantI S_ 32 (BitVec.ofNat 32 k)
  | 0 => ⟨stateOf_entry m c, counter_entry m c⟩
  | k + 1 => by
    obtain ⟨hs, hn⟩ := trips k
    rw [Function.iterate_succ_apply']
    exact ⟨(stateOf_trip _ k hn).trans (congrArg (Step.step k) hs), (STEP_main_v70_7 _).trans (trip_counter _ k hn)⟩

/-- What the operations after the loop make of a valuation that still holds the arguments they read. -/
theorem result_of (V : Valuation τ sig (Elt F)) (h0 : V (Proc.devRef .tc main_arg0) = m ((c.tc : Thread nD τ).loc main_arg0))
    (h1 : V (Proc.devRef .tc main_arg1) = m ((c.tc : Thread nD τ).loc main_arg1))
    (h11 : V (Proc.devRef .tc main_arg11) = m ((c.tc : Thread nD τ).loc main_arg11)) :
    out_main_v77 V = Step.R_main_v77 (stateOf V) (m ((c.tc : Thread nD τ).loc main_arg0))
      (m ((c.tc : Thread nD τ).loc main_arg1)) (m ((c.tc : Thread nD τ).loc main_arg11)) := by
  unfold out_main_v77
  rw [h0, h1, h11]
  rfl

/-- The reference ends with its result made of the last scan carry, and its arguments unchanged. -/
theorem run_scan (ρ : Dev nD → PrngReg) :
    θ_run (defs (F := F)) (onTc (τ := τ) (main (F := F))) ⟨m, fun _ => 0, ρ⟩ fun r => ∀ c : Dev nD,
      r.2.mem ((c.tc : Thread nD τ).loc main_v77) = Step.R_main_v77 (scanAt m c 2048)
        (m ((c.tc : Thread nD τ).loc main_arg0)) (m ((c.tc : Thread nD τ).loc main_arg1))
        (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c).1.trans ((result_of m c _ (iter_main_arg0 m c 2048) (iter_main_arg1 m c 2048) (iter_main_arg11 m c 2048)).trans
      (by rw [(trips m c 2048).1])), (h c).2⟩) (run m ρ)

end Cert.ReferenceIdeal.Hand

end
-- ==== Proof.Frames.lean ====
/-
  The frames: each program terminates with its twelve arguments unchanged and every semaphore counter at zero. The
  kernel's two printings get theirs from the run over the grid; the reference's is a part of its generated run, and the
  reference declares no semaphore.
-/
module

public import proofs.«01_k».proof.Proof.Run
public import proofs.«01_k».proof.Proof.KRun
public import proofs.«01_k».proof.Proof.RefRun
public import Idealize.ShloMosaic.Adequacy
public import Idealize.ShloMosaic.Init
public import Idealize.ShloMosaic.PureOps.BitExact
public import Idealize.ShloMosaic.PureOps.Ideal

@[expose] public section

set_option maxRecDepth 16384

noncomputable section

open Idealize.ShloMosaic Idealize.SL.Sem

namespace Cert.Kernel.Hand

open Cert.Kernel Cert.Kernel.Gen

/-- The kernel, printed as it is: its arguments are unchanged and its counters are at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  θ_run_with_sems (frame_of m ρ (dats m) fun _ _ => rfl) (run_main (F := Bits) m ρ)

end Cert.Kernel.Hand

namespace Cert.KernelIdeal.Hand

open Cert.KernelIdeal Cert.KernelIdeal.Gen

/-- The kernel over the extended reals: its arguments are unchanged and its counters are at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  θ_run_with_sems (frame_of m ρ (dats m) fun _ _ => rfl) (run_main (F := Ideal) m ρ)

end Cert.KernelIdeal.Hand

namespace Cert.ReferenceIdeal.Hand

open Cert.ReferenceIdeal

/-- The reference over the extended reals: its arguments are unchanged and, declaring no semaphore, its counters are at
    zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run _ _ _).mono (fun r h =>
    ⟨fun c => (h c).2, sem_eq_zero_of_no_sems (by decide) r.2⟩) (run_scan (F := Ideal) m ρ)

end Cert.ReferenceIdeal.Hand

end
-- ==== Proof.Loop.lean ====
/-
  The scan of one chunk. The loop makes 32 trips of four rows; each row multiplies the carried state by the row's decay
  factor, adds the row's increment and leaves the new state where the increment was. So after the loop the carried
  state is the recurrence run over the chunk's 128 rows, and the increments' buffer holds every row's state.
-/
module

public import proofs.«01_k».proof.Proof.Body
public import Idealize.ShloMosaic.Lib.WritesUnit
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Row `n` of a chunk. -/
abbrev row (n : ℕ) : Fin 128 := ⟨n % 128, Nat.mod_lt _ (by decide)⟩

/-- The recurrence over a chunk: the state before row `n`, from the decay factors, the increments and the state the
    chunk starts at. -/
def hAt (P Q : FVec Ideal S128x16x1024 .f32) (h : FVec Ideal S16x1024 .f32) : ℕ → Fin 16 → Fin 1024 → EReal
  | 0 => fun s d => h (ix2 s d)
  | n + 1 => fun s d => P (ix3 (row n) s d) * hAt P Q h n s d + Q (ix3 (row n) s d)

/-- A load of one row of a chunk's buffer reads that row. -/
theorem slab_read (v : View sig .tc .vmem S128x16x1024 .f32) (X : v.ty.Contents (Elt Ideal))
    (k : Fin k0_t1_loop.trips) (r : Fin 4) (s : Fin 16) (d : Fin 1024) :
    v.readAt (Elt Ideal) (Rect.unit (s := S128x16x1024) (k0_off1 k (BitVec.ofNat 32 r.val)) S1x16x1024.size (k0_off1_inb k r)).toLoadRect X
        (ix3 0 s d)
      = v.read (Elt Ideal) X (ix3 (row (4 * k.val + r.val)) s d) := by
  have hk : k.val < 32 := k.isLt
  have hr := r.isLt
  refine congrArg (v.read (Elt Ideal) X) (funext fun a => Fin.ext ?_)
  have e := k0_off1_eq k r
  refine (congrArg (fun z => z + 1 * _) (congrFun e a)).trans ?_
  fin_cases a
  · show 4 * k.val + r.val + 1 * 0 = (4 * k.val + r.val) % 128
    omega
  · show 0 + 1 * s.val = s.val
    omega
  · show 0 + 1 * d.val = d.val
    omega

/-- A store of one row, read back: the row reads the stored vector, the others what was there. -/
theorem slab_write (v : View sig .tc .vmem S128x16x1024 .f32) (f : v.ty.Contents (Elt Ideal))
    (k : Fin k0_t1_loop.trips) (r : Fin 4) (w : FVec Ideal S1x16x1024 .f32)
    (L : List (View.Piece (Elt Ideal) S128x16x1024 .f32)) (y : Fin 128) (s : Fin 16) (d : Fin 1024) :
    v.read (Elt Ideal) (v.writes (Elt Ideal) f
        (⟨Rect.unit (s := S128x16x1024) (k0_off1 k (BitVec.ofNat 32 r.val)) S1x16x1024.size (k0_off1_inb k r), w⟩ :: L)) (ix3 y s d)
      = if y.val = 4 * k.val + r.val then w (ix3 0 s d)
        else v.read (Elt Ideal) (v.writes (Elt Ideal) f L) (ix3 y s d) := by
  split
  · next h =>
    refine View.read_writes_cons_unit_of_mem v f _ w L _ (ix3 0 s d) (k0_off1_eq k r) fun a => ?_
    fin_cases a
    · show y.val = 4 * k.val + r.val + 0
      omega
    · show s.val = 0 + s.val
      omega
    · show d.val = 0 + d.val
      omega
  · next h =>
    refine View.read_writes_cons_unit_of_not_mem v f _ w L _ (k0_off1_eq k r) 0 ?_
    show y.val < 4 * k.val + r.val ∨ 4 * k.val + r.val + 1 ≤ y.val
    omega

/-- One more row of the recurrence, from one row read of each buffer. -/
theorem hAt_step {P Q : FVec Ideal S128x16x1024 .f32} {h : FVec Ideal S16x1024 .f32} {n : ℕ} {s : Fin 16} {d : Fin 1024}
    {p q z : EReal} (hp : p = P (ix3 (row n) s d)) (hq : q = Q (ix3 (row n) s d)) (hz : z = hAt P Q h n s d) :
    p * z + q = hAt P Q h (n + 1) s d := by
  rw [hp, hq, hz]
  rfl

/-- One more row stored: where the rows before it hold the states after them, and the row is stored its own state, one
    more row does. -/
theorem slab_fill {P Q : FVec Ideal S128x16x1024 .f32} {h : FVec Ideal S16x1024 .f32}
    (v : View sig .tc .vmem S128x16x1024 .f32) (f : v.ty.Contents (Elt Ideal))
    (k : Fin k0_t1_loop.trips) (r : Fin 4) (w : FVec Ideal S1x16x1024 .f32)
    (L : List (View.Piece (Elt Ideal) S128x16x1024 .f32)) (y : Fin 128) (s : Fin 16) (d : Fin 1024)
    (hw : w (ix3 0 s d) = hAt P Q h (4 * k.val + r.val + 1) s d)
    (hL : v.read (Elt Ideal) (v.writes (Elt Ideal) f L) (ix3 y s d)
      = if y.val < 4 * k.val + r.val then hAt P Q h (y.val + 1) s d else Q (ix3 y s d)) :
    v.read (Elt Ideal) (v.writes (Elt Ideal) f
        (⟨Rect.unit (s := S128x16x1024) (k0_off1 k (BitVec.ofNat 32 r.val)) S1x16x1024.size (k0_off1_inb k r), w⟩ :: L))
        (ix3 y s d)
      = if y.val < 4 * k.val + r.val + 1 then hAt P Q h (y.val + 1) s d else Q (ix3 y s d) := by
  rw [slab_write]
  by_cases e : y.val = 4 * k.val + r.val
  · rw [if_pos e, if_pos (by omega), hw, e]
  · rw [if_neg e, hL]
    by_cases l : y.val < 4 * k.val + r.val
    · rw [if_pos l, if_pos (by omega)]
    · rw [if_neg l, if_neg (by omega)]

variable (c : Dev nD) (i : grid0.Coords)
  (M0 : Memref sig .tc .vmem S1x128x512 .f32) (h0 : M0.IsWhole)
  (M1 : Memref sig .tc .vmem S1x512 .f32) (h1 : M1.IsWhole)
  (M2 : Memref sig .tc .vmem S512x2048 .f32) (h2 : M2.IsWhole)
  (M3 : Memref sig .tc .vmem S4x1024 .f32) (h3 : M3.IsWhole)
  (M4 : Memref sig .tc .vmem S1x1024 .f32) (h4 : M4.IsWhole)
  (M5 : Memref sig .tc .vmem S1024x64 .f32) (h5 : M5.IsWhole)
  (M6 : Memref sig .tc .vmem S32x1024 .f32) (h6 : M6.IsWhole)
  (M7 : Memref sig .tc .vmem S1x1024 .f32) (h7 : M7.IsWhole)
  (M8 : Memref sig .tc .vmem S16x1024 .f32) (h8 : M8.IsWhole)
  (M9 : Memref sig .tc .vmem S1x1024 .f32) (h9 : M9.IsWhole)
  (M10 : Memref sig .tc .vmem S1024x512 .f32) (h10 : M10.IsWhole)
  (M11 : Memref sig .tc .vmem S1x128x512 .f32) (h11 : M11.IsWhole)
  (v65 : FVec Ideal S128x16 .f32) (v92 : FVec Ideal S128x1024 .f32) (v244 : FVec Ideal S16x16x1 .f32)
  (X : BufTy.Contents (Elt Ideal) sc1.view.ty)

section Trip

variable (k : Fin k0_t1_loop.trips) (acc : FVec Ideal S16x1024 .f32) (f : BufTy.Contents (Elt Ideal) sc2.view.ty)

/-- What one trip carries on: four rows of the recurrence. -/
theorem tripR_eq :
    tripR_k0_t1 (F := Ideal) 𝒱₀ c none i M0 h0 M1 h1 M2 h2 M3 h3 M4 h4 M5 h5 M6 h6 M7 h7 M8 h8 M9 h9 M10 h10 M11 h11 sc0 (Memref.isWhole_whole _) sc1 (Memref.isWhole_whole _) sc2 (Memref.isWhole_whole _) sc3 (Memref.isWhole_whole _) v65 v92 v244 X k acc f
      = k0_pay47 (F := Ideal) (k0_pay6 acc (sc1.view.readAt (Elt Ideal) (Rect.unit (s := S128x16x1024) (k0_off1 k 0#32) S1x16x1024.size (k0_off1_inb k 0)).toLoadRect X) (sc2.view.readAt (Elt Ideal) (Rect.unit (s := S128x16x1024) (k0_off1 k 0#32) S1x16x1024.size (k0_off1_inb k 0)).toLoadRect f)
          (sc1.view.readAt (Elt Ideal) (Rect.unit (s := S128x16x1024) (k0_off1 k 1#32) S1x16x1024.size (k0_off1_inb k 1)).toLoadRect X) (sc2.view.readAt (Elt Ideal) (Rect.unit (s := S128x16x1024) (k0_off1 k 1#32) S1x16x1024.size (k0_off1_inb k 1)).toLoadRect f)
          (sc1.view.readAt (Elt Ideal) (Rect.unit (s := S128x16x1024) (k0_off1 k 2#32) S1x16x1024.size (k0_off1_inb k 2)).toLoadRect X))
          (sc2.view.readAt (Elt Ideal) (Rect.unit (s := S128x16x1024) (k0_off1 k 2#32) S1x16x1024.size (k0_off1_inb k 2)).toLoadRect f)
          (sc1.view.readAt (Elt Ideal) (Rect.unit (s := S128x16x1024) (k0_off1 k 3#32) S1x16x1024.size (k0_off1_inb k 3)).toLoadRect X) (sc2.view.readAt (Elt Ideal) (Rect.unit (s := S128x16x1024) (k0_off1 k 3#32) S1x16x1024.size (k0_off1_inb k 3)).toLoadRect f) := by
  unfold tripR_k0_t1 trip_k0_t1
  rfl

/-- What one trip stores: the four rows' states. -/
theorem tripL_eq :
    tripL_k0_t1 (F := Ideal) 𝒱₀ c none i M0 h0 M1 h1 M2 h2 M3 h3 M4 h4 M5 h5 M6 h6 M7 h7 M8 h8 M9 h9 M10 h10 M11 h11 sc0 (Memref.isWhole_whole _) sc1 (Memref.isWhole_whole _) sc2 (Memref.isWhole_whole _) sc3 (Memref.isWhole_whole _) v65 v92 v244 X k acc f
      = [⟨Rect.unit (s := S128x16x1024) (k0_off1 k 3#32) S1x16x1024.size (k0_off1_inb k 3), k0_pay48 (F := Ideal) (k0_pay6 acc (sc1.view.readAt (Elt Ideal) (Rect.unit (s := S128x16x1024) (k0_off1 k 0#32) S1x16x1024.size (k0_off1_inb k 0)).toLoadRect X) (sc2.view.readAt (Elt Ideal) (Rect.unit (s := S128x16x1024) (k0_off1 k 0#32) S1x16x1024.size (k0_off1_inb k 0)).toLoadRect f)
          (sc1.view.readAt (Elt Ideal) (Rect.unit (s := S128x16x1024) (k0_off1 k 1#32) S1x16x1024.size (k0_off1_inb k 1)).toLoadRect X) (sc2.view.readAt (Elt Ideal) (Rect.unit (s := S128x16x1024) (k0_off1 k 1#32) S1x16x1024.size (k0_off1_inb k 1)).toLoadRect f)
          (sc1.view.readAt (Elt Ideal) (Rect.unit (s := S128x16x1024) (k0_off1 k 2#32) S1x16x1024.size (k0_off1_inb k 2)).toLoadRect X))
          (sc2.view.readAt (Elt Ideal) (Rect.unit (s := S128x16x1024) (k0_off1 k 2#32) S1x16x1024.size (k0_off1_inb k 2)).toLoadRect f)
          (sc1.view.readAt (Elt Ideal) (Rect.unit (s := S128x16x1024) (k0_off1 k 3#32) S1x16x1024.size (k0_off1_inb k 3)).toLoadRect X) (sc2.view.readAt (Elt Ideal) (Rect.unit (s := S128x16x1024) (k0_off1 k 3#32) S1x16x1024.size (k0_off1_inb k 3)).toLoadRect f)⟩,
        ⟨Rect.unit (s := S128x16x1024) (k0_off1 k 2#32) S1x16x1024.size (k0_off1_inb k 2), k0_pay46 (F := Ideal) (k0_pay6 acc (sc1.view.readAt (Elt Ideal) (Rect.unit (s := S128x16x1024) (k0_off1 k 0#32) S1x16x1024.size (k0_off1_inb k 0)).toLoadRect X) (sc2.view.readAt (Elt Ideal) (Rect.unit (s := S128x16x1024) (k0_off1 k 0#32) S1x16x1024.size (k0_off1_inb k 0)).toLoadRect f)
          (sc1.view.readAt (Elt Ideal) (Rect.unit (s := S128x16x1024) (k0_off1 k 1#32) S1x16x1024.size (k0_off1_inb k 1)).toLoadRect X) (sc2.view.readAt (Elt Ideal) (Rect.unit (s := S128x16x1024) (k0_off1 k 1#32) S1x16x1024.size (k0_off1_inb k 1)).toLoadRect f)
          (sc1.view.readAt (Elt Ideal) (Rect.unit (s := S128x16x1024) (k0_off1 k 2#32) S1x16x1024.size (k0_off1_inb k 2)).toLoadRect X))
          (sc2.view.readAt (Elt Ideal) (Rect.unit (s := S128x16x1024) (k0_off1 k 2#32) S1x16x1024.size (k0_off1_inb k 2)).toLoadRect f)⟩,
        ⟨Rect.unit (s := S128x16x1024) (k0_off1 k 1#32) S1x16x1024.size (k0_off1_inb k 1), k0_pay5 (F := Ideal) acc (sc1.view.readAt (Elt Ideal) (Rect.unit (s := S128x16x1024) (k0_off1 k 0#32) S1x16x1024.size (k0_off1_inb k 0)).toLoadRect X) (sc2.view.readAt (Elt Ideal) (Rect.unit (s := S128x16x1024) (k0_off1 k 0#32) S1x16x1024.size (k0_off1_inb k 0)).toLoadRect f)
          (sc1.view.readAt (Elt Ideal) (Rect.unit (s := S128x16x1024) (k0_off1 k 1#32) S1x16x1024.size (k0_off1_inb k 1)).toLoadRect X) (sc2.view.readAt (Elt Ideal) (Rect.unit (s := S128x16x1024) (k0_off1 k 1#32) S1x16x1024.size (k0_off1_inb k 1)).toLoadRect f)⟩,
        ⟨Rect.unit (s := S128x16x1024) (k0_off1 k 0#32) S1x16x1024.size (k0_off1_inb k 0), k0_pay3 (F := Ideal) acc (sc1.view.readAt (Elt Ideal) (Rect.unit (s := S128x16x1024) (k0_off1 k 0#32) S1x16x1024.size (k0_off1_inb k 0)).toLoadRect X) (sc2.view.readAt (Elt Ideal) (Rect.unit (s := S128x16x1024) (k0_off1 k 0#32) S1x16x1024.size (k0_off1_inb k 0)).toLoadRect f)⟩] := by
  unfold tripL_k0_t1 trip_k0_t1
  rfl

end Trip

section Pay

variable (acc : FVec Ideal S16x1024 .f32) (p0 q0 p1 q1 p2 q2 p3 q3 : FVec Ideal S1x16x1024 .f32) (s : Fin 16) (d : Fin 1024)

/-- A trip's first new state. -/
theorem pay3_at : k0_pay3 (F := Ideal) acc p0 q0 (ix3 0 s d) = p0 (ix3 0 s d) * acc (ix2 s d) + q0 (ix3 0 s d) := by
  pointwise [k0_pay3, k0_pay2]
/-- A trip's second new state. -/
theorem pay5_at : k0_pay5 (F := Ideal) acc p0 q0 p1 q1 (ix3 0 s d)
    = p1 (ix3 0 s d) * (p0 (ix3 0 s d) * acc (ix2 s d) + q0 (ix3 0 s d)) + q1 (ix3 0 s d) := by
  pointwise [k0_pay5, k0_pay4, k0_pay2]
/-- A trip's third new state. -/
theorem pay46_at : k0_pay46 (F := Ideal) (k0_pay6 acc p0 q0 p1 q1 p2) q2 (ix3 0 s d)
    = p2 (ix3 0 s d) * (p1 (ix3 0 s d) * (p0 (ix3 0 s d) * acc (ix2 s d) + q0 (ix3 0 s d)) + q1 (ix3 0 s d))
      + q2 (ix3 0 s d) := by
  pointwise [k0_pay46, k0_pay45, k0_pay6, k0_pay4, k0_pay2]
/-- A trip's fourth new state, as stored. -/
theorem pay48_at : k0_pay48 (F := Ideal) (k0_pay6 acc p0 q0 p1 q1 p2) q2 p3 q3 (ix3 0 s d)
    = p3 (ix3 0 s d) * (p2 (ix3 0 s d) * (p1 (ix3 0 s d) * (p0 (ix3 0 s d) * acc (ix2 s d) + q0 (ix3 0 s d))
      + q1 (ix3 0 s d)) + q2 (ix3 0 s d)) + q3 (ix3 0 s d) := by
  pointwise [k0_pay48, k0_pay47, k0_pay45, k0_pay6, k0_pay4, k0_pay2]
/-- A trip's fourth new state, as carried on. -/
theorem pay47_at : k0_pay47 (F := Ideal) (k0_pay6 acc p0 q0 p1 q1 p2) q2 p3 q3 (ix2 s d)
    = p3 (ix3 0 s d) * (p2 (ix3 0 s d) * (p1 (ix3 0 s d) * (p0 (ix3 0 s d) * acc (ix2 s d) + q0 (ix3 0 s d))
      + q1 (ix3 0 s d)) + q2 (ix3 0 s d)) + q3 (ix3 0 s d) := by
  pointwise [k0_pay47, k0_pay45, k0_pay6, k0_pay4, k0_pay2]

end Pay

/-- The loop after `k` trips: the carried state is the recurrence after `4 k` rows, and those rows of the increments'
    buffer hold the states after them; the other rows are as the loop found them. -/
theorem loop_at (G : BufTy.Contents (Elt Ideal) sc2.view.ty) (h : FVec Ideal S16x1024 .f32) (k : ℕ) (hk : k ≤ 32) :
    (∀ s d, (st_k0_t1 (F := Ideal) 𝒱₀ c none i M0 h0 M1 h1 M2 h2 M3 h3 M4 h4 M5 h5 M6 h6 M7 h7 M8 h8 M9 h9 M10 h10 M11 h11 sc0 (Memref.isWhole_whole _) sc1 (Memref.isWhole_whole _) sc2 (Memref.isWhole_whole _) sc3 (Memref.isWhole_whole _) v65 v92 v244 X G h k).1 (ix2 s d)
        = hAt (sc1.view.read (Elt Ideal) X) (sc2.view.read (Elt Ideal) G) h (4 * k) s d) ∧
    ∀ (y : Fin 128) (s : Fin 16) (d : Fin 1024),
      sc2.view.read (Elt Ideal) (sc2.view.writes (Elt Ideal) G
          (st_k0_t1 (F := Ideal) 𝒱₀ c none i M0 h0 M1 h1 M2 h2 M3 h3 M4 h4 M5 h5 M6 h6 M7 h7 M8 h8 M9 h9 M10 h10 M11 h11 sc0 (Memref.isWhole_whole _) sc1 (Memref.isWhole_whole _) sc2 (Memref.isWhole_whole _) sc3 (Memref.isWhole_whole _) v65 v92 v244 X G h k).2) (ix3 y s d)
        = if y.val < 4 * k then hAt (sc1.view.read (Elt Ideal) X) (sc2.view.read (Elt Ideal) G) h (y.val + 1) s d
          else sc2.view.read (Elt Ideal) G (ix3 y s d) := by
  induction k with
  | zero => exact ⟨fun s d => rfl, fun y s d => rfl⟩
  | succ k ih =>
    obtain ⟨ihr, ihl⟩ := ih (by omega)
    have hs := st_k0_t1_succ (F := Ideal) 𝒱₀ c none i M0 h0 M1 h1 M2 h2 M3 h3 M4 h4 M5 h5 M6 h6 M7 h7 M8 h8 M9 h9 M10 h10 M11 h11 sc0 (Memref.isWhole_whole _) sc1 (Memref.isWhole_whole _) sc2 (Memref.isWhole_whole _) sc3 (Memref.isWhole_whole _) v65 v92 v244 X G h ⟨k, by show k < 32; omega⟩
    have hk' : k < 32 := by omega
    set st := st_k0_t1 (F := Ideal) 𝒱₀ c none i M0 h0 M1 h1 M2 h2 M3 h3 M4 h4 M5 h5 M6 h6 M7 h7 M8 h8 M9 h9 M10 h10 M11 h11 sc0 (Memref.isWhole_whole _) sc1 (Memref.isWhole_whole _) sc2 (Memref.isWhole_whole _) sc3 (Memref.isWhole_whole _) v65 v92 v244 X G h k with hst
    clear_value st
    have eP : ∀ (r : Fin 4) (s : Fin 16) (d : Fin 1024), _ := fun r s d => slab_read sc1.view X ⟨k, hk'⟩ r s d
    have eQ : ∀ (r : Fin 4) (s : Fin 16) (d : Fin 1024), _ := fun r s d =>
      (slab_read sc2.view (sc2.view.writes (Elt Ideal) G st.2) ⟨k, hk'⟩ r s d).trans
        ((ihl (row (4 * k + r.val)) s d).trans (if_neg (by
          have := r.isLt
          show ¬ (4 * k + r.val) % 128 < 4 * k
          omega)))
    rw [hs, tripR_eq, tripL_eq]
    refine ⟨fun s d => (pay47_at _ _ _ _ _ _ _ _ _ s d).trans (hAt_step (eP 3 s d) (eQ 3 s d)
      (hAt_step (eP 2 s d) (eQ 2 s d) (hAt_step (eP 1 s d) (eQ 1 s d) (hAt_step (eP 0 s d) (eQ 0 s d) (ihr s d))))),
      fun y s d => ?_⟩
    have f3 := slab_fill sc2.view G ⟨k, hk'⟩ 3 _ _ y s d ((pay48_at _ _ _ _ _ _ _ _ _ s d).trans (hAt_step (eP 3 s d) (eQ 3 s d)
      (hAt_step (eP 2 s d) (eQ 2 s d) (hAt_step (eP 1 s d) (eQ 1 s d) (hAt_step (eP 0 s d) (eQ 0 s d) (ihr s d))))))
      (slab_fill sc2.view G ⟨k, hk'⟩ 2 _ _ y s d ((pay46_at _ _ _ _ _ _ _ s d).trans
      (hAt_step (eP 2 s d) (eQ 2 s d) (hAt_step (eP 1 s d) (eQ 1 s d) (hAt_step (eP 0 s d) (eQ 0 s d) (ihr s d)))))
      (slab_fill sc2.view G ⟨k, hk'⟩ 1 _ _ y s d ((pay5_at _ _ _ _ _ s d).trans
      (hAt_step (eP 1 s d) (eQ 1 s d) (hAt_step (eP 0 s d) (eQ 0 s d) (ihr s d))))
      (slab_fill sc2.view G ⟨k, hk'⟩ 0 _ _ y s d ((pay3_at _ _ _ s d).trans
      (hAt_step (eP 0 s d) (eQ 0 s d) (ihr s d))) (ihl y s d))))
    exact f3

end Cert.KernelIdeal.Hand

end
-- ==== Proof.Spec.lean ====
/-
  The layer written once as plain functions of numbers: what one time step computes from its row of the input, the four
  taps of its convolution and the scan state. Both programs are compared against these functions. The order of the
  products and sums is the one the kernel uses.
-/
module

public import Idealize.ShloMosaic.PureOps.Ideal
public import Idealize.ShloMosaic.Lib.Pointwise

@[expose] public section

noncomputable section

namespace Cert.Layer

open Idealize.ShloMosaic

/-- The layer's weights. -/
structure Weights where
  /-- The normalisation's weight. -/
  nw : Fin 512 → EReal
  /-- The input projection, by output and input. -/
  ip : Fin 2048 → Fin 512 → EReal
  /-- The convolution's taps, by channel and tap. -/
  cw : Fin 1024 → Fin 4 → EReal
  /-- The convolution's bias. -/
  cb : Fin 1024 → EReal
  /-- The projection to the step size and the two state maps, by output and channel. -/
  xp : Fin 64 → Fin 1024 → EReal
  /-- The step size's projection, by channel and rank. -/
  dp : Fin 1024 → Fin 32 → EReal
  /-- The step size's bias. -/
  db : Fin 1024 → EReal
  /-- The logarithm of the decay rates, by channel and state. -/
  al : Fin 1024 → Fin 16 → EReal
  /-- The skip connection's weight. -/
  dd : Fin 1024 → EReal
  /-- The output projection, by output and channel. -/
  op : Fin 512 → Fin 1024 → EReal

variable (W : Weights)

/-- The normalised input of one time step, projected. -/
def inproj (x : Fin 512 → EReal) (e : Fin 2048) : EReal :=
  ∑ k, x k * Ideal.rsqrt (Ideal.div (∑ l, x l * x l) (Ideal.ofBits .f32 1140850688#32) + Ideal.ofBits .f32 925353388#32)
    * W.nw k * W.ip e k

/-- The half of the projection that is convolved. -/
def uIn (x : Fin 512 → EReal) (d : Fin 1024) : EReal := inproj W x ⟨d.val, by omega⟩

/-- The half of the projection that gates the output. -/
def zIn (x : Fin 512 → EReal) (d : Fin 1024) : EReal := inproj W x ⟨1024 + d.val, by omega⟩

/-- A number times its sigmoid. -/
def silu (v : EReal) : EReal := v * Ideal.logistic v

/-- The convolution at one channel, from its four taps. -/
def conv (t : Fin 4 → Fin 1024 → EReal) (d : Fin 1024) : EReal :=
  W.cb d + t 0 d * W.cw d 0 + t 1 d * W.cw d 1 + t 2 d * W.cw d 2 + t 3 d * W.cw d 3

/-- The convolution's activation. -/
def act (t : Fin 4 → Fin 1024 → EReal) (d : Fin 1024) : EReal := silu (conv W t d)

/-- The projection of an activated row. -/
def xd (u : Fin 1024 → EReal) (e : Fin 64) : EReal := ∑ d, u d * W.xp e d

/-- The input map of the scan at one time step. -/
def bm (u : Fin 1024 → EReal) (s : Fin 16) : EReal := xd W u ⟨32 + s.val, by omega⟩

/-- The output map of the scan at one time step. -/
def cm (u : Fin 1024 → EReal) (s : Fin 16) : EReal := xd W u ⟨48 + s.val, by omega⟩

/-- The step size before its softplus and bias. -/
def dtIn (u : Fin 1024 → EReal) (d : Fin 1024) : EReal := ∑ k : Fin 32, xd W u ⟨k.val, by omega⟩ * W.dp d k

/-- The softplus. -/
def softplus (v : EReal) : EReal := max v 0 + Ideal.log1p (Ideal.exp (0 - FloatOps.absf (F := Ideal) (φ := .f32) v))

/-- The step size. -/
def dt (u : Fin 1024 → EReal) (d : Fin 1024) : EReal := softplus (dtIn W u d + W.db d)

/-- The decay factor of one time step. -/
def decay (u : Fin 1024 → EReal) (s : Fin 16) (d : Fin 1024) : EReal :=
  Ideal.exp (dt W u d * (0 - Ideal.exp (W.al d s)))

/-- The increment of one time step. -/
def incr (u : Fin 1024 → EReal) (s : Fin 16) (d : Fin 1024) : EReal := bm W u s * (dt W u d * u d)

/-- The scan's state before time step `n`, from the activated rows and the state it starts at. -/
def hRec (u : ℕ → Fin 1024 → EReal) (h : Fin 16 → Fin 1024 → EReal) : ℕ → Fin 16 → Fin 1024 → EReal
  | 0 => h
  | n + 1 => fun s d => decay W (u n) s d * hRec u h n s d + incr W (u n) s d

/-- The gated output of one time step, before its projection. -/
def gated (u z : Fin 1024 → EReal) (h : Fin 16 → Fin 1024 → EReal) (d : Fin 1024) : EReal :=
  ((∑ s, cm W u s * h s d) + W.dd d * u d) * silu (z d)

/-- The layer's output at one time step. -/
def outRow (x : Fin 512 → EReal) (u z : Fin 1024 → EReal) (h : Fin 16 → Fin 1024 → EReal) (i : Fin 512) : EReal :=
  x i + ∑ d, gated W u z h d * W.op i d

/-- The tap `j` rows into the window that ends three rows later, at time `t`; before the start it is zero. -/
def tapAt (X : ℕ → Fin 512 → EReal) (t : ℕ) (j : Fin 4) (d : Fin 1024) : EReal :=
  if t + j.val < 3 then 0 else uIn W (X (t + j.val - 3)) d

/-- The activated row at time `t` of a sequence. -/
def uAt (X : ℕ → Fin 512 → EReal) (t : ℕ) (d : Fin 1024) : EReal := act W (tapAt W X t) d

/-- The scan's state before time `n` of a sequence, started at zero. -/
def hSeq (X : ℕ → Fin 512 → EReal) (n : ℕ) : Fin 16 → Fin 1024 → EReal := hRec W (uAt W X) (fun _ _ => 0) n

/-- The layer's output at time `t` of a sequence. -/
def outSeq (X : ℕ → Fin 512 → EReal) (t : ℕ) (i : Fin 512) : EReal :=
  outRow W (X t) (uAt W X t) (zIn W (X t)) (hSeq W X (t + 1)) i

/-- The scan over `n + k` steps is the scan over `n` steps, then over the next `k`. -/
theorem hRec_add (u : ℕ → Fin 1024 → EReal) (h : Fin 16 → Fin 1024 → EReal) (n k : ℕ) :
    hRec W u h (n + k) = hRec W (fun i => u (n + i)) (hRec W u h n) k := by
  induction k with
  | zero => rfl
  | succ k ih =>
    funext s d
    show decay W (u (n + k)) s d * hRec W u h (n + k) s d + incr W (u (n + k)) s d = _
    rw [ih]
    rfl

/-- The scan reads only the rows before its end. -/
theorem hRec_congr {u v : ℕ → Fin 1024 → EReal} (h : Fin 16 → Fin 1024 → EReal) (n : ℕ) (e : ∀ k, k < n → u k = v k) :
    hRec W u h n = hRec W v h n := by
  induction n with
  | zero => rfl
  | succ n ih =>
    funext s d
    show decay W (u n) s d * hRec W u h n s d + incr W (u n) s d = _
    rw [ih fun k hk => e k (by omega), e n (by omega)]
    rfl

end Cert.Layer

end
-- ==== Proof.Slabs.lean ====
/-
  One chunk's values. From the chunk's block of the input, the weights' blocks, the convolution's four windows and the
  state the chunk starts at, the body computes the activated rows, the step sizes, the decay factors and increments it
  scans, and the output block. Here each is read at an index and compared with the layer's functions.
-/
module

public import proofs.«01_k».proof.Proof.Loop
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Layer (Weights)

/-- A slab of sixteen rows stored on top of earlier stores: where the rows before it read `G` and the slab holds its rows
    of `G`, the rows up to its end read `G`. -/
theorem slab16_fill (v : View sig .tc .vmem S128x16x1024 .f32) (f : v.ty.Contents (Elt Ideal)) (G : Fin 128 → Fin 16 → Fin 1024 → EReal)
    {o : ℕ} (inb : ∀ a, (![o, 0, 0] : Fin 3 → ℕ) a + S16x16x1024.size a ≤ S128x16x1024.size a) (ho : o + 16 ≤ 128)
    (w : FVec Ideal S16x16x1024 .f32) (L : List (View.Piece (Elt Ideal) S128x16x1024 .f32))
    (hw : ∀ (r : Fin 16) (s : Fin 16) (d : Fin 1024), w (ix3 r s d) = G ⟨o + r.val, by omega⟩ s d)
    (hL : ∀ (y : Fin 128) (s : Fin 16) (d : Fin 1024), y.val < o →
      v.read (Elt Ideal) (v.writes (Elt Ideal) f L) (ix3 y s d) = G y s d)
    (y : Fin 128) (s : Fin 16) (d : Fin 1024) (hy : y.val < o + 16) :
    v.read (Elt Ideal) (v.writes (Elt Ideal) f (⟨Rect.unit (s := S128x16x1024) ![o, 0, 0] S16x16x1024.size inb, w⟩ :: L))
      (ix3 y s d) = G y s d := by
  by_cases h : o ≤ y.val
  · refine (View.read_writes_cons_unit_of_mem v f inb w L _ (ix3 (⟨y.val - o, by omega⟩ : Fin 16) s d) rfl fun a => ?_).trans ?_
    · fin_cases a
      · show y.val = o + (y.val - o)
        omega
      · show s.val = 0 + s.val
        omega
      · show d.val = 0 + d.val
        omega
    · rw [hw]
      exact congrArg (fun z => G z s d) (Fin.ext (by show o + (y.val - o) = y.val; omega))
  · refine (View.read_writes_cons_unit_of_not_mem v f inb w L _ rfl 0 ?_).trans (hL y s d (by omega))
    show y.val < o ∨ o + 16 ≤ y.val
    omega

section Slabs

variable (v68 ua : FVec Ideal S128x1024 .f32) (v64 v65 : FVec Ideal S128x16 .f32) (db : FVec Ideal S1x1024 .f32)
  (al : FVec Ideal S16x1024 .f32)

/-- The stores of the decay factors, the last first. -/
def decays : List (View.Piece (Elt Ideal) S128x16x1024 .f32) := [
    ⟨Rect.unit (s := S128x16x1024) ![112, 0, 0] S16x16x1024.size inb_S128x16x1024_S16x16x1024_112_0_0, (k0_pay42 ( k0_pay21 v68 db) ( k0_pay22 al))⟩,
    ⟨Rect.unit (s := S128x16x1024) ![96, 0, 0] S16x16x1024.size inb_S128x16x1024_S16x16x1024_96_0_0, (k0_pay40 ( k0_pay21 v68 db) ( k0_pay22 al))⟩,
    ⟨Rect.unit (s := S128x16x1024) ![80, 0, 0] S16x16x1024.size inb_S128x16x1024_S16x16x1024_80_0_0, (k0_pay38 ( k0_pay37 ( k0_pay21 v68 db) ( k0_pay22 al)))⟩,
    ⟨Rect.unit (s := S128x16x1024) ![64, 0, 0] S16x16x1024.size inb_S128x16x1024_S16x16x1024_64_0_0, (k0_pay35 ( k0_pay21 v68 db) ( k0_pay22 al))⟩,
    ⟨Rect.unit (s := S128x16x1024) ![48, 0, 0] S16x16x1024.size inb_S128x16x1024_S16x16x1024_48_0_0, (k0_pay33 ( k0_pay32 ( k0_pay21 v68 db) ( k0_pay22 al)))⟩,
    ⟨Rect.unit (s := S128x16x1024) ![32, 0, 0] S16x16x1024.size inb_S128x16x1024_S16x16x1024_32_0_0, (k0_pay30 ( k0_pay21 v68 db) ( k0_pay22 al))⟩,
    ⟨Rect.unit (s := S128x16x1024) ![16, 0, 0] S16x16x1024.size inb_S128x16x1024_S16x16x1024_16_0_0, (k0_pay28 ( k0_pay26 al) ( k0_pay27 v68 db))⟩,
    ⟨Rect.unit (s := S128x16x1024) ![0, 0, 0] S16x16x1024.size inb_S128x16x1024_S16x16x1024_0_0_0, (k0_pay24 v68 db al)⟩]

/-- The stores of the increments, the last first. -/
def incrs : List (View.Piece (Elt Ideal) S128x16x1024 .f32) := [
    ⟨Rect.unit (s := S128x16x1024) ![112, 0, 0] S16x16x1024.size inb_S128x16x1024_S16x16x1024_112_0_0, (k0_pay44 ( k0_pay23 ua v68 db) ( k0_pay43 v64))⟩,
    ⟨Rect.unit (s := S128x16x1024) ![96, 0, 0] S16x16x1024.size inb_S128x16x1024_S16x16x1024_96_0_0, (k0_pay41 v64 ( k0_pay23 ua v68 db))⟩,
    ⟨Rect.unit (s := S128x16x1024) ![80, 0, 0] S16x16x1024.size inb_S128x16x1024_S16x16x1024_80_0_0, (k0_pay39 v64 ( k0_pay23 ua v68 db))⟩,
    ⟨Rect.unit (s := S128x16x1024) ![64, 0, 0] S16x16x1024.size inb_S128x16x1024_S16x16x1024_64_0_0, (k0_pay36 v64 ( k0_pay23 ua v68 db))⟩,
    ⟨Rect.unit (s := S128x16x1024) ![48, 0, 0] S16x16x1024.size inb_S128x16x1024_S16x16x1024_48_0_0, (k0_pay34 v64 ( k0_pay23 ua v68 db))⟩,
    ⟨Rect.unit (s := S128x16x1024) ![32, 0, 0] S16x16x1024.size inb_S128x16x1024_S16x16x1024_32_0_0, (k0_pay31 v64 ( k0_pay23 ua v68 db))⟩,
    ⟨Rect.unit (s := S128x16x1024) ![16, 0, 0] S16x16x1024.size inb_S128x16x1024_S16x16x1024_16_0_0, (k0_pay29 v64 ( k0_pay23 ua v68 db))⟩,
    ⟨Rect.unit (s := S128x16x1024) ![0, 0, 0] S16x16x1024.size inb_S128x16x1024_S16x16x1024_0_0_0, (k0_pay25 ua v64 v68 db)⟩]

/-- The step size from its projection. -/
def dtOf (r : Fin 128) (d : Fin 1024) : EReal := Cert.Layer.softplus (v68 (ix2 r d) + db (ix2 0 d))

/-- The step sizes' entry. -/
theorem pay21_at (r : Fin 128) (d : Fin 1024) : k0_pay21 (F := Ideal) v68 db (ix2 r d) = dtOf v68 db r d := by
  pointwise [k0_pay21, dtOf, Cert.Layer.softplus]
  simp

/-- The decay rates' entry. -/
theorem pay22_at (s : Fin 16) (d : Fin 1024) : k0_pay22 (F := Ideal) al (ix2 s d) = 0 - Ideal.exp (al (ix2 s d)) := by
  pointwise [k0_pay22]

/-- The decay factors' buffer after its stores. -/
theorem decays_read (v : View sig .tc .vmem S128x16x1024 .f32) (f : v.ty.Contents (Elt Ideal)) (y : Fin 128) (s : Fin 16)
    (d : Fin 1024) : v.read (Elt Ideal) (v.writes (Elt Ideal) f (decays v68 db al)) (ix3 y s d)
      = Ideal.exp (dtOf v68 db y d * (0 - Ideal.exp (al (ix2 s d)))) := by
  unfold decays
  iterate 8
    refine slab16_fill v f (fun y s d => Ideal.exp (dtOf v68 db y d * (0 - Ideal.exp (al (ix2 s d)))))
      _ (by omega) _ _ (fun r s d => ?_) (fun y s d hy => ?_) y s d (by omega)
    · pointwise [k0_pay42, k0_pay40, k0_pay38, k0_pay37, k0_pay35, k0_pay33, k0_pay32, k0_pay30, k0_pay28, k0_pay27, k0_pay26,
        k0_pay24, k0_pay21, k0_pay22, dtOf, Cert.Layer.softplus]
      simp
  exact absurd hy (by omega)

/-- The increments' buffer after its stores. -/
theorem incrs_read (v : View sig .tc .vmem S128x16x1024 .f32) (f : v.ty.Contents (Elt Ideal)) (y : Fin 128) (s : Fin 16)
    (d : Fin 1024) : v.read (Elt Ideal) (v.writes (Elt Ideal) f (incrs v68 ua v64 db)) (ix3 y s d)
      = v64 (ix2 y s) * (dtOf v68 db y d * ua (ix2 y d)) := by
  unfold incrs
  iterate 8
    refine slab16_fill v f (fun y s d => v64 (ix2 y s) * (dtOf v68 db y d * ua (ix2 y d)))
      _ (by omega) _ _ (fun r s d => ?_) (fun y s d hy => ?_) y s d (by omega)
    · pointwise [k0_pay44, k0_pay43, k0_pay41, k0_pay39, k0_pay36, k0_pay34, k0_pay31, k0_pay29, k0_pay25, k0_pay23, k0_pay21,
        dtOf, Cert.Layer.softplus]
      simp
  exact absurd hy (by omega)

end Slabs

end Cert.KernelIdeal.Hand

end
-- ==== Proof.Chunk.lean ====
/-
  One chunk as a function of what it reads: the four convolution windows, the blocks and the state it starts at. The
  scan's final state and the output block are written with the body's own operations, and compared with the layer's
  functions of the chunk's rows.
-/
module

public import proofs.«01_k».proof.Proof.Slabs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Layer

variable (c : Dev nD) (i : grid0.Coords)
  (M0 : Memref sig .tc .vmem S1x128x512 .f32) (h0 : M0.IsWhole)
  (M1 : Memref sig .tc .vmem S1x512 .f32) (h1 : M1.IsWhole)
  (M2 : Memref sig .tc .vmem S512x2048 .f32) (h2 : M2.IsWhole)
  (M3 : Memref sig .tc .vmem S4x1024 .f32) (h3 : M3.IsWhole)
  (M4 : Memref sig .tc .vmem S1x1024 .f32) (h4 : M4.IsWhole)
  (M5 : Memref sig .tc .vmem S1024x64 .f32) (h5 : M5.IsWhole)
  (M6 : Memref sig .tc .vmem S32x1024 .f32) (h6 : M6.IsWhole)
  (M7 : Memref sig .tc .vmem S1x1024 .f32) (h7 : M7.IsWhole)
  (M8 : Memref sig .tc .vmem S16x1024 .f32) (h8 : M8.IsWhole)
  (M9 : Memref sig .tc .vmem S1x1024 .f32) (h9 : M9.IsWhole)
  (M10 : Memref sig .tc .vmem S1024x512 .f32) (h10 : M10.IsWhole)
  (M11 : Memref sig .tc .vmem S1x128x512 .f32) (h11 : M11.IsWhole)
  (x : FVec Ideal S1x128x512 .f32) (nw : FVec Ideal S1x512 .f32) (ip : FVec Ideal S512x2048 .f32)
  (cw0 cw1 cw2 cw3 cb : FVec Ideal S1x1024 .f32) (t0 t1 t2 t3 : FVec Ideal S128x1024 .f32)
  (xp : FVec Ideal S1024x64 .f32) (dp : FVec Ideal S32x1024 .f32) (db dd : FVec Ideal S1x1024 .f32)
  (al : FVec Ideal S16x1024 .f32) (op : FVec Ideal S1024x512 .f32) (h : FVec Ideal S16x1024 .f32)

/-- The chunk's activated rows. -/
def uaV : FVec Ideal S128x1024 .f32 := k0_pay15 (F := Ideal) (k0_pay13 t0 cw0) (k0_pay14 cb) t1 cw1 t2 cw2 t3 cw3
/-- The chunk's input maps. -/
def bmV : FVec Ideal S128x16 .f32 := k0_pay18 (F := Ideal) (k0_pay13 t0 cw0) (k0_pay14 cb) t1 cw1 t2 cw2 t3 cw3 xp
/-- The chunk's output maps. -/
def cmV : FVec Ideal S128x16 .f32 := k0_pay19 (F := Ideal) (k0_pay13 t0 cw0) (k0_pay14 cb) t1 cw1 t2 cw2 t3 cw3 xp
/-- The chunk's projected step sizes. -/
def dtV : FVec Ideal S128x1024 .f32 := k0_pay20 (F := Ideal) (k0_pay13 t0 cw0) (k0_pay14 cb) t1 cw1 t2 cw2 t3 cw3 xp dp

/-- The chunk's scan after `n` trips: the carried state, and the states stored so far. -/
def scanV (n : ℕ) : FVec Ideal S16x1024 .f32 × List (View.Piece (Elt Ideal) S128x16x1024 .f32) :=
  st_k0_t1 (F := Ideal) 𝒱₀ c none i M0 h0 M1 h1 M2 h2 M3 h3 M4 h4 M5 h5 M6 h6 M7 h7 M8 h8 M9 h9 M10 h10 M11 h11 sc0 (Memref.isWhole_whole _) sc1 (Memref.isWhole_whole _) sc2 (Memref.isWhole_whole _) sc3 (Memref.isWhole_whole _)
    (cmV cw0 cw1 cw2 cw3 cb t0 t1 t2 t3 xp) (k0_pay23 (F := Ideal) (uaV cw0 cw1 cw2 cw3 cb t0 t1 t2 t3) (dtV cw0 cw1 cw2 cw3 cb t0 t1 t2 t3 xp dp) db) (k0_pay43 (F := Ideal) (bmV cw0 cw1 cw2 cw3 cb t0 t1 t2 t3 xp))
    (sc1.view.writes (Elt Ideal) sc1.view.junk (decays (dtV cw0 cw1 cw2 cw3 cb t0 t1 t2 t3 xp dp) db al))
    (sc2.view.writes (Elt Ideal) sc2.view.junk (incrs (dtV cw0 cw1 cw2 cw3 cb t0 t1 t2 t3 xp dp) (uaV cw0 cw1 cw2 cw3 cb t0 t1 t2 t3) (bmV cw0 cw1 cw2 cw3 cb t0 t1 t2 t3 xp) db)) h n

/-- The sixteen states a slab's load reads after the scan. -/
def slabV (o : ℕ) (inb : ∀ a, (![o, 0, 0] : Fin 3 → ℕ) a + S16x16x1024.size a ≤ S128x16x1024.size a) :
    FVec Ideal S16x16x1024 .f32 :=
  sc2.view.readCov ((scanV c i M0 h0 M1 h1 M2 h2 M3 h3 M4 h4 M5 h5 M6 h6 M7 h7 M8 h8 M9 h9 M10 h10 M11 h11 cw0 cw1 cw2 cw3 cb t0 t1 t2 t3 xp dp db al h
      (Scf.trips k0_t1_loop.lb k0_t1_loop.ub k0_t1_loop.st)).2 ++ incrs (dtV cw0 cw1 cw2 cw3 cb t0 t1 t2 t3 xp dp) (uaV cw0 cw1 cw2 cw3 cb t0 t1 t2 t3) (bmV cw0 cw1 cw2 cw3 cb t0 t1 t2 t3 xp) db)
    (Rect.unit (s := S128x16x1024) ![o, 0, 0] S16x16x1024.size inb).toLoadRect

/-- The gated output of a chunk, from its slabs of states. -/
def gateV : FVec Ideal S128x1024 .f32 :=
  k0_pay54 (F := Ideal) (k0_pay11 x nw ip) (uaV cw0 cw1 cw2 cw3 cb t0 t1 t2 t3) (cmV cw0 cw1 cw2 cw3 cb t0 t1 t2 t3 xp)
    (k0_pay50 (cmV cw0 cw1 cw2 cw3 cb t0 t1 t2 t3 xp) (slabV c i M0 h0 M1 h1 M2 h2 M3 h3 M4 h4 M5 h5 M6 h6 M7 h7 M8 h8 M9 h9 M10 h10 M11 h11 cw0 cw1 cw2 cw3 cb t0 t1 t2 t3 xp dp db al h 0 inb_S128x16x1024_S16x16x1024_0_0_0))
    (k0_pay51 (cmV cw0 cw1 cw2 cw3 cb t0 t1 t2 t3 xp) (slabV c i M0 h0 M1 h1 M2 h2 M3 h3 M4 h4 M5 h5 M6 h6 M7 h7 M8 h8 M9 h9 M10 h10 M11 h11 cw0 cw1 cw2 cw3 cb t0 t1 t2 t3 xp dp db al h 16 inb_S128x16x1024_S16x16x1024_16_0_0))
    (k0_pay52 (cmV cw0 cw1 cw2 cw3 cb t0 t1 t2 t3 xp) (slabV c i M0 h0 M1 h1 M2 h2 M3 h3 M4 h4 M5 h5 M6 h6 M7 h7 M8 h8 M9 h9 M10 h10 M11 h11 cw0 cw1 cw2 cw3 cb t0 t1 t2 t3 xp dp db al h 32 inb_S128x16x1024_S16x16x1024_32_0_0))
    (k0_pay53 (cmV cw0 cw1 cw2 cw3 cb t0 t1 t2 t3 xp)) (slabV c i M0 h0 M1 h1 M2 h2 M3 h3 M4 h4 M5 h5 M6 h6 M7 h7 M8 h8 M9 h9 M10 h10 M11 h11 cw0 cw1 cw2 cw3 cb t0 t1 t2 t3 xp dp db al h 48 inb_S128x16x1024_S16x16x1024_48_0_0)
    (slabV c i M0 h0 M1 h1 M2 h2 M3 h3 M4 h4 M5 h5 M6 h6 M7 h7 M8 h8 M9 h9 M10 h10 M11 h11 cw0 cw1 cw2 cw3 cb t0 t1 t2 t3 xp dp db al h 64 inb_S128x16x1024_S16x16x1024_64_0_0) (slabV c i M0 h0 M1 h1 M2 h2 M3 h3 M4 h4 M5 h5 M6 h6 M7 h7 M8 h8 M9 h9 M10 h10 M11 h11 cw0 cw1 cw2 cw3 cb t0 t1 t2 t3 xp dp db al h 80 inb_S128x16x1024_S16x16x1024_80_0_0)
    (slabV c i M0 h0 M1 h1 M2 h2 M3 h3 M4 h4 M5 h5 M6 h6 M7 h7 M8 h8 M9 h9 M10 h10 M11 h11 cw0 cw1 cw2 cw3 cb t0 t1 t2 t3 xp dp db al h 96 inb_S128x16x1024_S16x16x1024_96_0_0) (slabV c i M0 h0 M1 h1 M2 h2 M3 h3 M4 h4 M5 h5 M6 h6 M7 h7 M8 h8 M9 h9 M10 h10 M11 h11 cw0 cw1 cw2 cw3 cb t0 t1 t2 t3 xp dp db al h 112 inb_S128x16x1024_S16x16x1024_112_0_0) dd

/-- The output block of a chunk. -/
def outV : FVec Ideal S1x128x512 .f32 :=
  k0_pay1 (F := Ideal) (k0_pay9 x)
    (gateV c i M0 h0 M1 h1 M2 h2 M3 h3 M4 h4 M5 h5 M6 h6 M7 h7 M8 h8 M9 h9 M10 h10 M11 h11 x nw ip cw0 cw1 cw2 cw3 cb t0 t1 t2 t3 xp dp db dd al h) op

/-- The weights the blocks hold. -/
def blkW : Weights where
  nw := fun k => nw (ix2 0 k)
  ip := fun e k => ip (ix2 k e)
  cw := fun d j => (![cw0, cw1, cw2, cw3] j : FVec Ideal S1x1024 .f32) (ix2 0 d)
  cb := fun d => cb (ix2 0 d)
  xp := fun e d => xp (ix2 d e)
  dp := fun d k => dp (ix2 k d)
  db := fun d => db (ix2 0 d)
  al := fun d s => al (ix2 s d)
  dd := fun d => dd (ix2 0 d)
  op := fun k d => op (ix2 d k)

/-- The four windows of one row. -/
def taps (r : Fin 128) (j : Fin 4) (d : Fin 1024) : EReal := (![t0, t1, t2, t3] j : FVec Ideal S128x1024 .f32) (ix2 r d)

/-- The projection's convolved half. -/
theorem pay12_at (r : Fin 128) (d : Fin 1024) :
    k0_pay12 (F := Ideal) x nw ip (ix2 r d) = uIn (blkW nw ip cw0 cw1 cw2 cw3 cb xp dp db dd al op) (fun k => x (ix3 0 r k)) d := by
  pointwise [k0_pay12, k0_pay10, k0_pay9, uIn, inproj, blkW]

/-- The projection's gating half. -/
theorem pay11_at (r : Fin 128) (d : Fin 1024) :
    k0_pay11 (F := Ideal) x nw ip (ix2 r d) = zIn (blkW nw ip cw0 cw1 cw2 cw3 cb xp dp db dd al op) (fun k => x (ix3 0 r k)) d := by
  pointwise [k0_pay11, k0_pay10, k0_pay9, zIn, inproj, blkW]

/-- The activated rows. -/
theorem uaV_at (r : Fin 128) (d : Fin 1024) :
    uaV cw0 cw1 cw2 cw3 cb t0 t1 t2 t3 (ix2 r d) = act (blkW nw ip cw0 cw1 cw2 cw3 cb xp dp db dd al op) (taps t0 t1 t2 t3 r) d := by
  pointwise [uaV, k0_pay15, k0_pay13, k0_pay14, act, silu, conv, blkW, taps]

/-- The projection of the activated rows. -/
theorem xd_at (r : Fin 128) (e : Fin 64) :
    k0_pay17 (F := Ideal) (k0_pay13 t0 cw0) (k0_pay14 cb) t1 cw1 t2 cw2 t3 cw3 xp (ix2 r e)
      = xd (blkW nw ip cw0 cw1 cw2 cw3 cb xp dp db dd al op) (act (blkW nw ip cw0 cw1 cw2 cw3 cb xp dp db dd al op) (taps t0 t1 t2 t3 r)) e := by
  pointwise [k0_pay17, xd]
  exact Finset.sum_congr rfl fun d _ => congrArg₂ (· * ·) (uaV_at nw ip cw0 cw1 cw2 cw3 cb t0 t1 t2 t3 xp dp db dd al op r d) rfl

/-- The input maps. -/
theorem bmV_at (r : Fin 128) (s : Fin 16) :
    bmV cw0 cw1 cw2 cw3 cb t0 t1 t2 t3 xp (ix2 r s)
      = bm (blkW nw ip cw0 cw1 cw2 cw3 cb xp dp db dd al op) (act (blkW nw ip cw0 cw1 cw2 cw3 cb xp dp db dd al op) (taps t0 t1 t2 t3 r)) s := by
  refine Eq.trans ?_ (xd_at nw ip cw0 cw1 cw2 cw3 cb t0 t1 t2 t3 xp dp db dd al op r ⟨32 + s.val, by omega⟩)
  pointwise [bmV, k0_pay18]

/-- The output maps. -/
theorem cmV_at (r : Fin 128) (s : Fin 16) :
    cmV cw0 cw1 cw2 cw3 cb t0 t1 t2 t3 xp (ix2 r s)
      = cm (blkW nw ip cw0 cw1 cw2 cw3 cb xp dp db dd al op) (act (blkW nw ip cw0 cw1 cw2 cw3 cb xp dp db dd al op) (taps t0 t1 t2 t3 r)) s := by
  refine Eq.trans ?_ (xd_at nw ip cw0 cw1 cw2 cw3 cb t0 t1 t2 t3 xp dp db dd al op r ⟨48 + s.val, by omega⟩)
  pointwise [cmV, k0_pay19]

/-- The projected step sizes. -/
theorem dtV_at (r : Fin 128) (d : Fin 1024) :
    dtV cw0 cw1 cw2 cw3 cb t0 t1 t2 t3 xp dp (ix2 r d)
      = dtIn (blkW nw ip cw0 cw1 cw2 cw3 cb xp dp db dd al op) (act (blkW nw ip cw0 cw1 cw2 cw3 cb xp dp db dd al op) (taps t0 t1 t2 t3 r)) d := by
  pointwise [dtV, k0_pay20, dtIn]
  exact Finset.sum_congr rfl fun k _ => congrArg₂ (· * ·) (xd_at nw ip cw0 cw1 cw2 cw3 cb t0 t1 t2 t3 xp dp db dd al op r ⟨k.val, by omega⟩) rfl

/-- The step sizes. -/
theorem dtOf_at (r : Fin 128) (d : Fin 1024) :
    dtOf (dtV cw0 cw1 cw2 cw3 cb t0 t1 t2 t3 xp dp) db r d
      = dt (blkW nw ip cw0 cw1 cw2 cw3 cb xp dp db dd al op) (act (blkW nw ip cw0 cw1 cw2 cw3 cb xp dp db dd al op) (taps t0 t1 t2 t3 r)) d := by
  unfold dtOf
  rw [dtV_at nw ip cw0 cw1 cw2 cw3 cb t0 t1 t2 t3 xp dp db dd al op]
  rfl

/-- The activated rows by their number in the chunk. -/
abbrev rowsV (n : ℕ) : Fin 1024 → EReal :=
  act (blkW nw ip cw0 cw1 cw2 cw3 cb xp dp db dd al op) (taps t0 t1 t2 t3 (row n))

/-- The recurrence over the buffers is the layer's recurrence over the chunk's rows. -/
theorem hAt_rows (n : ℕ) (s : Fin 16) (d : Fin 1024) :
    hAt (sc1.view.read (Elt Ideal) (sc1.view.writes (Elt Ideal) sc1.view.junk (decays (dtV cw0 cw1 cw2 cw3 cb t0 t1 t2 t3 xp dp) db al)))
        (sc2.view.read (Elt Ideal) (sc2.view.writes (Elt Ideal) sc2.view.junk (incrs (dtV cw0 cw1 cw2 cw3 cb t0 t1 t2 t3 xp dp) (uaV cw0 cw1 cw2 cw3 cb t0 t1 t2 t3) (bmV cw0 cw1 cw2 cw3 cb t0 t1 t2 t3 xp) db))) h n s d
      = hRec (blkW nw ip cw0 cw1 cw2 cw3 cb xp dp db dd al op) (rowsV nw ip cw0 cw1 cw2 cw3 cb t0 t1 t2 t3 xp dp db dd al op) (fun s d => h (ix2 s d)) n s d := by
  induction n with
  | zero => rfl
  | succ n ih =>
    refine congrArg₂ (· + ·) (congrArg₂ (· * ·) ((decays_read _ _ _ sc1.view _ (row n) s d).trans ?_) ih)
      ((incrs_read _ _ _ _ sc2.view _ (row n) s d).trans ?_)
    · rw [dtOf_at nw ip cw0 cw1 cw2 cw3 cb t0 t1 t2 t3 xp dp db dd al op]
      rfl
    · rw [dtOf_at nw ip cw0 cw1 cw2 cw3 cb t0 t1 t2 t3 xp dp db dd al op, bmV_at nw ip cw0 cw1 cw2 cw3 cb t0 t1 t2 t3 xp dp db dd al op,
        uaV_at nw ip cw0 cw1 cw2 cw3 cb t0 t1 t2 t3 xp dp db dd al op]
      rfl

/-- The scan's final state. -/
theorem scanV_state (s : Fin 16) (d : Fin 1024) :
    (scanV c i M0 h0 M1 h1 M2 h2 M3 h3 M4 h4 M5 h5 M6 h6 M7 h7 M8 h8 M9 h9 M10 h10 M11 h11 cw0 cw1 cw2 cw3 cb t0 t1 t2 t3 xp dp db al h (Scf.trips k0_t1_loop.lb k0_t1_loop.ub k0_t1_loop.st)).1 (ix2 s d)
      = hRec (blkW nw ip cw0 cw1 cw2 cw3 cb xp dp db dd al op) (rowsV nw ip cw0 cw1 cw2 cw3 cb t0 t1 t2 t3 xp dp db dd al op) (fun s d => h (ix2 s d)) 128 s d :=
  ((loop_at c i M0 h0 M1 h1 M2 h2 M3 h3 M4 h4 M5 h5 M6 h6 M7 h7 M8 h8 M9 h9 M10 h10 M11 h11 _ _ _ _ _ h 32 le_rfl).1 s d).trans (hAt_rows nw ip cw0 cw1 cw2 cw3 cb t0 t1 t2 t3 xp dp db dd al op h 128 s d)

/-- The states a slab's load reads. -/
theorem slabV_at (o : ℕ) (inb) (ho : o + 16 ≤ 128) (r : Fin 16) (s : Fin 16) (d : Fin 1024) :
    slabV c i M0 h0 M1 h1 M2 h2 M3 h3 M4 h4 M5 h5 M6 h6 M7 h7 M8 h8 M9 h9 M10 h10 M11 h11 cw0 cw1 cw2 cw3 cb t0 t1 t2 t3 xp dp db al h o inb (ix3 r s d)
      = hRec (blkW nw ip cw0 cw1 cw2 cw3 cb xp dp db dd al op) (rowsV nw ip cw0 cw1 cw2 cw3 cb t0 t1 t2 t3 xp dp db dd al op) (fun s d => h (ix2 s d)) (o + r.val + 1) s d := by
  have hix : (Rect.unit (s := S128x16x1024) ![o, 0, 0] S16x16x1024.size inb).toLoadRect.idx (ix3 r s d)
      = ix3 (⟨o + r.val, by omega⟩ : Fin 128) s d := by
    funext a
    refine Fin.ext ?_
    fin_cases a
    · show o + 1 * r.val = o + r.val
      omega
    · show 0 + 1 * s.val = s.val
      omega
    · show 0 + 1 * d.val = d.val
      omega
  unfold slabV View.readCov
  rw [View.readAt_apply, hix, View.writes_append]
  refine ((loop_at c i M0 h0 M1 h1 M2 h2 M3 h3 M4 h4 M5 h5 M6 h6 M7 h7 M8 h8 M9 h9 M10 h10 M11 h11 _ _ _ _ _ h 32 le_rfl).2 _ s d).trans ?_
  rw [if_pos (by show o + r.val < 4 * 32; omega)]
  exact hAt_rows nw ip cw0 cw1 cw2 cw3 cb t0 t1 t2 t3 xp dp db dd al op h (o + r.val + 1) s d

/-- One slab's rows of the contraction with the output maps. -/
theorem slab_sum (cm : FVec Ideal S128x16 .f32) (G : Fin 128 → Fin 16 → Fin 1024 → EReal) (sl : FVec Ideal S16x16x1024 .f32) (o : ℕ)
    (ho : o + 16 ≤ 128) (hsl : ∀ (r s : Fin 16) (d : Fin 1024), sl (ix3 r s d) = G ⟨o + r.val, by omega⟩ s d)
    (r : Fin 128) (q : Fin 128) (r' : Fin 16) (hq : q = r) (hr : o + r'.val = r.val) (d : Fin 1024) :
    ∑ s, cm (ix2 q s) * sl (ix3 r' s d) = ∑ s, cm (ix2 r s) * G r s d := by
  subst hq
  refine Finset.sum_congr rfl fun s _ => congrArg₂ (· * ·) rfl ((hsl r' s d).trans ?_)
  exact congrArg (fun z => G z s d) (Fin.ext hr)

/-- The gated output, from eight slabs that hold the states' rows. -/
theorem pay54_at (z ua : FVec Ideal S128x1024 .f32) (cm : FVec Ideal S128x16 .f32) (G : Fin 128 → Fin 16 → Fin 1024 → EReal)
    (sl : Fin 8 → FVec Ideal S16x16x1024 .f32)
    (hsl : ∀ (k : Fin 8) (r s : Fin 16) (d : Fin 1024), sl k (ix3 r s d) = G ⟨16 * k.val + r.val, by omega⟩ s d)
    (r : Fin 128) (d : Fin 1024) :
    k0_pay54 (F := Ideal) z ua cm (k0_pay50 cm (sl 0)) (k0_pay51 cm (sl 1)) (k0_pay52 cm (sl 2)) (k0_pay53 cm) (sl 3) (sl 4)
        (sl 5) (sl 6) (sl 7) dd (ix2 r d)
      = ((∑ s, cm (ix2 r s) * G r s d) + dd (ix2 0 d) * ua (ix2 r d)) * silu (z (ix2 r d)) := by
  pointwise [k0_pay54, k0_pay50, k0_pay51, k0_pay52, k0_pay53, silu]
  refine congrArg₂ (· * ·) (congrArg₂ (· + ·) ?_ rfl) rfl
  iterate 7
    split
    · exact slab_sum cm G (sl _) _ (by decide) (hsl _) r _ _ (Fin.ext (by simp; try omega)) (by simp; try omega) d
  exact slab_sum cm G (sl _) _ (by decide) (hsl _) r _ _ (Fin.ext (by simp; try omega)) (by simp; try omega) d

/-- The gated output of a chunk's row. -/
theorem gateV_at (r : Fin 128) (d : Fin 1024) :
    gateV c i M0 h0 M1 h1 M2 h2 M3 h3 M4 h4 M5 h5 M6 h6 M7 h7 M8 h8 M9 h9 M10 h10 M11 h11 x nw ip cw0 cw1 cw2 cw3 cb t0 t1 t2 t3 xp dp db dd al h (ix2 r d)
      = gated (blkW nw ip cw0 cw1 cw2 cw3 cb xp dp db dd al op) ((rowsV nw ip cw0 cw1 cw2 cw3 cb t0 t1 t2 t3 xp dp db dd al op) r.val) (zIn (blkW nw ip cw0 cw1 cw2 cw3 cb xp dp db dd al op) fun k => x (ix3 0 r k))
          (hRec (blkW nw ip cw0 cw1 cw2 cw3 cb xp dp db dd al op) (rowsV nw ip cw0 cw1 cw2 cw3 cb t0 t1 t2 t3 xp dp db dd al op) (fun s d => h (ix2 s d)) (r.val + 1)) d := by
  unfold gateV
  refine (pay54_at dd _ _ _ (fun r s d => hRec (blkW nw ip cw0 cw1 cw2 cw3 cb xp dp db dd al op) (rowsV nw ip cw0 cw1 cw2 cw3 cb t0 t1 t2 t3 xp dp db dd al op) (fun s d => h (ix2 s d)) (r.val + 1) s d)
    ![slabV c i M0 h0 M1 h1 M2 h2 M3 h3 M4 h4 M5 h5 M6 h6 M7 h7 M8 h8 M9 h9 M10 h10 M11 h11 cw0 cw1 cw2 cw3 cb t0 t1 t2 t3 xp dp db al h 0 inb_S128x16x1024_S16x16x1024_0_0_0,
      slabV c i M0 h0 M1 h1 M2 h2 M3 h3 M4 h4 M5 h5 M6 h6 M7 h7 M8 h8 M9 h9 M10 h10 M11 h11 cw0 cw1 cw2 cw3 cb t0 t1 t2 t3 xp dp db al h 16 inb_S128x16x1024_S16x16x1024_16_0_0,
      slabV c i M0 h0 M1 h1 M2 h2 M3 h3 M4 h4 M5 h5 M6 h6 M7 h7 M8 h8 M9 h9 M10 h10 M11 h11 cw0 cw1 cw2 cw3 cb t0 t1 t2 t3 xp dp db al h 32 inb_S128x16x1024_S16x16x1024_32_0_0,
      slabV c i M0 h0 M1 h1 M2 h2 M3 h3 M4 h4 M5 h5 M6 h6 M7 h7 M8 h8 M9 h9 M10 h10 M11 h11 cw0 cw1 cw2 cw3 cb t0 t1 t2 t3 xp dp db al h 48 inb_S128x16x1024_S16x16x1024_48_0_0,
      slabV c i M0 h0 M1 h1 M2 h2 M3 h3 M4 h4 M5 h5 M6 h6 M7 h7 M8 h8 M9 h9 M10 h10 M11 h11 cw0 cw1 cw2 cw3 cb t0 t1 t2 t3 xp dp db al h 64 inb_S128x16x1024_S16x16x1024_64_0_0,
      slabV c i M0 h0 M1 h1 M2 h2 M3 h3 M4 h4 M5 h5 M6 h6 M7 h7 M8 h8 M9 h9 M10 h10 M11 h11 cw0 cw1 cw2 cw3 cb t0 t1 t2 t3 xp dp db al h 80 inb_S128x16x1024_S16x16x1024_80_0_0,
      slabV c i M0 h0 M1 h1 M2 h2 M3 h3 M4 h4 M5 h5 M6 h6 M7 h7 M8 h8 M9 h9 M10 h10 M11 h11 cw0 cw1 cw2 cw3 cb t0 t1 t2 t3 xp dp db al h 96 inb_S128x16x1024_S16x16x1024_96_0_0,
      slabV c i M0 h0 M1 h1 M2 h2 M3 h3 M4 h4 M5 h5 M6 h6 M7 h7 M8 h8 M9 h9 M10 h10 M11 h11 cw0 cw1 cw2 cw3 cb t0 t1 t2 t3 xp dp db al h 112 inb_S128x16x1024_S16x16x1024_112_0_0]
    (fun k r s d => ?_) r d).trans ?_
  · fin_cases k <;> exact slabV_at c i M0 h0 M1 h1 M2 h2 M3 h3 M4 h4 M5 h5 M6 h6 M7 h7 M8 h8 M9 h9 M10 h10 M11 h11 nw ip cw0 cw1 cw2 cw3 cb t0 t1 t2 t3 xp dp db dd al op h _ _ (by omega) r s d
  · have hr : row r.val = r := Fin.ext (Nat.mod_eq_of_lt r.isLt)
    rw [pay11_at x nw ip cw0 cw1 cw2 cw3 cb xp dp db dd al op, uaV_at nw ip cw0 cw1 cw2 cw3 cb t0 t1 t2 t3 xp dp db dd al op]
    unfold gated
    rw [show (rowsV nw ip cw0 cw1 cw2 cw3 cb t0 t1 t2 t3 xp dp db dd al op) r.val = act (blkW nw ip cw0 cw1 cw2 cw3 cb xp dp db dd al op) (taps t0 t1 t2 t3 r) from congrArg (fun q => act (blkW nw ip cw0 cw1 cw2 cw3 cb xp dp db dd al op) (taps t0 t1 t2 t3 q)) hr]
    refine congrArg₂ (· * ·) (congrArg₂ (· + ·) (Finset.sum_congr rfl fun s _ => congrArg₂ (· * ·) ?_ rfl) rfl) rfl
    exact cmV_at nw ip cw0 cw1 cw2 cw3 cb t0 t1 t2 t3 xp dp db dd al op r s

/-- The output block at a row. -/
theorem outV_at (r : Fin 128) (k : Fin 512) :
    outV c i M0 h0 M1 h1 M2 h2 M3 h3 M4 h4 M5 h5 M6 h6 M7 h7 M8 h8 M9 h9 M10 h10 M11 h11 x nw ip cw0 cw1 cw2 cw3 cb t0 t1 t2 t3 xp dp db dd al op h (ix3 0 r k)
      = outRow (blkW nw ip cw0 cw1 cw2 cw3 cb xp dp db dd al op) (fun k => x (ix3 0 r k)) ((rowsV nw ip cw0 cw1 cw2 cw3 cb t0 t1 t2 t3 xp dp db dd al op) r.val) (zIn (blkW nw ip cw0 cw1 cw2 cw3 cb xp dp db dd al op) fun k => x (ix3 0 r k))
          (hRec (blkW nw ip cw0 cw1 cw2 cw3 cb xp dp db dd al op) (rowsV nw ip cw0 cw1 cw2 cw3 cb t0 t1 t2 t3 xp dp db dd al op) (fun s d => h (ix2 s d)) (r.val + 1)) k := by
  pointwise [outV, k0_pay1, k0_pay9, outRow]
  refine congrArg₂ (· + ·) rfl (Finset.sum_congr rfl fun d _ => congrArg₂ (· * ·) ?_ rfl)
  exact gateV_at c i M0 h0 M1 h1 M2 h2 M3 h3 M4 h4 M5 h5 M6 h6 M7 h7 M8 h8 M9 h9 M10 h10 M11 h11 x nw ip cw0 cw1 cw2 cw3 cb t0 t1 t2 t3 xp dp db dd al op h r d

end Cert.KernelIdeal.Hand

end
-- ==== Proof.Opened.lean ====
/-
  The two runs of the body, read: what each leaves in the halo buffer's first rows, in the state buffer and in the output
  block, as the chunk's functions of the blocks and of what the two carried buffers held.
-/
module

public import proofs.«01_k».proof.Proof.Chunk
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Layer

variable (c : Dev nD) (i : grid0.Coords)
  (M0 : Memref sig .tc .vmem S1x128x512 .f32) (h0 : M0.IsWhole)
  (M1 : Memref sig .tc .vmem S1x512 .f32) (h1 : M1.IsWhole)
  (M2 : Memref sig .tc .vmem S512x2048 .f32) (h2 : M2.IsWhole)
  (M3 : Memref sig .tc .vmem S4x1024 .f32) (h3 : M3.IsWhole)
  (M4 : Memref sig .tc .vmem S1x1024 .f32) (h4 : M4.IsWhole)
  (M5 : Memref sig .tc .vmem S1024x64 .f32) (h5 : M5.IsWhole)
  (M6 : Memref sig .tc .vmem S32x1024 .f32) (h6 : M6.IsWhole)
  (M7 : Memref sig .tc .vmem S1x1024 .f32) (h7 : M7.IsWhole)
  (M8 : Memref sig .tc .vmem S16x1024 .f32) (h8 : M8.IsWhole)
  (M9 : Memref sig .tc .vmem S1x1024 .f32) (h9 : M9.IsWhole)
  (M10 : Memref sig .tc .vmem S1024x512 .f32) (h10 : M10.IsWhole)
  (M11 : Memref sig .tc .vmem S1x128x512 .f32) (h11 : M11.IsWhole)
  (x : FVec Ideal S1x128x512 .f32) (nw : FVec Ideal S1x512 .f32) (ip : FVec Ideal S512x2048 .f32) (cw : FVec Ideal S4x1024 .f32)
  (cb : FVec Ideal S1x1024 .f32) (xp : FVec Ideal S1024x64 .f32) (dp : FVec Ideal S32x1024 .f32) (db : FVec Ideal S1x1024 .f32)
  (al : FVec Ideal S16x1024 .f32) (dd : FVec Ideal S1x1024 .f32) (op : FVec Ideal S1024x512 .f32)

/-- A row of the convolution's weights. -/
def cwRow (j : Fin 4) : FVec Ideal S1x1024 .f32 := fun y => cw (ix2 j (y 1))

/-- Keeping the state stores it as it is. -/
theorem pay49_eq (v : FVec Ideal S16x1024 .f32) : k0_pay49 (F := Ideal) v = v := by
  funext y
  idx_vars y
  pointwise [k0_pay49]

/-- A whole store of a state reads back as that state. -/
theorem keep_eq (s : FVec Ideal S16x1024 .f32 × List (View.Piece (Elt Ideal) S128x16x1024 .f32)) (L : List (View.Piece (Elt Ideal) S16x1024 .f32)) :
    View.read (Elt Ideal) sc3.view (sc3.view.writes (Elt Ideal) sc3.view.junk
      (⟨Rect.unit (s := S16x1024) ![0, 0] S16x1024.size inb_S16x1024_S16x1024_0_0, k0_pay49 (F := Ideal) s.1⟩ :: L)) = s.1 :=
  (View.read_writes_full sc3.view _ _ _ _).trans (pay49_eq _)

/-- The states after the chunk's last row. -/
def lastV (cw0 cw1 cw2 cw3 cb : FVec Ideal S1x1024 .f32) (t0 t1 t2 t3 : FVec Ideal S128x1024 .f32) (h : FVec Ideal S16x1024 .f32) : FVec Ideal S16x1024 .f32 :=
  (scanV c i M0 h0 M1 h1 M2 h2 M3 h3 M4 h4 M5 h5 M6 h6 M7 h7 M8 h8 M9 h9 M10 h10 M11 h11 cw0 cw1 cw2 cw3 cb t0 t1 t2 t3 xp dp db al h (Scf.trips k0_t1_loop.lb k0_t1_loop.ub k0_t1_loop.st)).1

/-! Each input's load reads the input's block. -/

/-- The input block's load reads its block. -/
theorem ld_x : (M0.view.readAt (Elt Ideal) (Rect.unit (s := S1x128x512) ![0, 0, 0] S1x128x512.size inb_S1x128x512_S1x128x512_0_0_0).toLoadRect (h0.unread x)) = x := by
  rw [View.readAt_full, h0.read_unread]
/-- The normalisation weights' load reads its block. -/
theorem ld_nw : (M1.view.readAt (Elt Ideal) (Rect.unit (s := S1x512) ![0, 0] S1x512.size inb_S1x512_S1x512_0_0).toLoadRect (h1.unread nw)) = nw := by
  rw [View.readAt_full, h1.read_unread]
/-- The input projection's load reads its block. -/
theorem ld_ip : (M2.view.readAt (Elt Ideal) (Rect.unit (s := S512x2048) ![0, 0] S512x2048.size inb_S512x2048_S512x2048_0_0).toLoadRect (h2.unread ip)) = ip := by
  rw [View.readAt_full, h2.read_unread]
/-- The convolution bias's load reads its block. -/
theorem ld_cb : (M4.view.readAt (Elt Ideal) (Rect.unit (s := S1x1024) ![0, 0] S1x1024.size inb_S1x1024_S1x1024_0_0).toLoadRect (h4.unread cb)) = cb := by
  rw [View.readAt_full, h4.read_unread]
/-- The low-rank projection's load reads its block. -/
theorem ld_xp : (M5.view.readAt (Elt Ideal) (Rect.unit (s := S1024x64) ![0, 0] S1024x64.size inb_S1024x64_S1024x64_0_0).toLoadRect (h5.unread xp)) = xp := by
  rw [View.readAt_full, h5.read_unread]
/-- The step-size projection's load reads its block. -/
theorem ld_dp : (M6.view.readAt (Elt Ideal) (Rect.unit (s := S32x1024) ![0, 0] S32x1024.size inb_S32x1024_S32x1024_0_0).toLoadRect (h6.unread dp)) = dp := by
  rw [View.readAt_full, h6.read_unread]
/-- The step-size bias's load reads its block. -/
theorem ld_db : (M7.view.readAt (Elt Ideal) (Rect.unit (s := S1x1024) ![0, 0] S1x1024.size inb_S1x1024_S1x1024_0_0).toLoadRect (h7.unread db)) = db := by
  rw [View.readAt_full, h7.read_unread]
/-- The decay rates' load reads its block. -/
theorem ld_al : (M8.view.readAt (Elt Ideal) (Rect.unit (s := S16x1024) ![0, 0] S16x1024.size inb_S16x1024_S16x1024_0_0).toLoadRect (h8.unread al)) = al := by
  rw [View.readAt_full, h8.read_unread]
/-- The direct weights' load reads its block. -/
theorem ld_dd : (M9.view.readAt (Elt Ideal) (Rect.unit (s := S1x1024) ![0, 0] S1x1024.size inb_S1x1024_S1x1024_0_0).toLoadRect (h9.unread dd)) = dd := by
  rw [View.readAt_full, h9.read_unread]
/-- The output projection's load reads its block. -/
theorem ld_op : (M10.view.readAt (Elt Ideal) (Rect.unit (s := S1024x512) ![0, 0] S1024x512.size inb_S1024x512_S1024x512_0_0).toLoadRect (h10.unread op)) = op := by
  rw [View.readAt_full, h10.read_unread]
/-- A load of one row of the convolution's weights reads that row. -/
theorem ld_c (j : Fin 4) (inb : ∀ a, (![j.val, 0] : Fin 2 → ℕ) a + S1x1024.size a ≤ S4x1024.size a) :
    (M3.view.readAt (Elt Ideal) (Rect.unit (s := S4x1024) ![j.val, 0] S1x1024.size inb).toLoadRect (h3.unread cw)) = cwRow cw j := by
  funext y
  rw [View.readAt_apply, h3.read_unread]
  idx_vars y
  exact congrArg cw (by idx_ext)
/-- The first tap's load. -/
theorem ld_c0 : (M3.view.readAt (Elt Ideal) (Rect.unit (s := S4x1024) ![0, 0] S1x1024.size inb_S4x1024_S1x1024_0_0).toLoadRect (h3.unread cw)) = cwRow cw 0 :=
  ld_c M3 h3 cw 0 _
/-- The second tap's load. -/
theorem ld_c1 : (M3.view.readAt (Elt Ideal) (Rect.unit (s := S4x1024) ![1, 0] S1x1024.size inb_S4x1024_S1x1024_1_0).toLoadRect (h3.unread cw)) = cwRow cw 1 :=
  ld_c M3 h3 cw 1 _
/-- The third tap's load. -/
theorem ld_c2 : (M3.view.readAt (Elt Ideal) (Rect.unit (s := S4x1024) ![2, 0] S1x1024.size inb_S4x1024_S1x1024_2_0).toLoadRect (h3.unread cw)) = cwRow cw 2 :=
  ld_c M3 h3 cw 2 _
/-- The fourth tap's load. -/
theorem ld_c3 : (M3.view.readAt (Elt Ideal) (Rect.unit (s := S4x1024) ![3, 0] S1x1024.size inb_S4x1024_S1x1024_3_0).toLoadRect (h3.unread cw)) = cwRow cw 3 :=
  ld_c M3 h3 cw 3 _

/-- What the halo buffer holds once the chunk's projection `w` is stored over the carried rows `f0`. -/
def bufN (w : FVec Ideal S128x1024 .f32) (f0 : FVec Ideal S136x1024 .f32) : sc0.view.ty.Contents (Elt Ideal) :=
  sc0.view.writes (Elt Ideal) ((Memref.isWhole_whole cc0_scratch0).unread f0)
    [⟨Rect.unit (s := S136x1024) ![8, 0] S128x1024.size inb_S136x1024_S128x1024_8_0, w⟩]

/-- The same with nothing said of the carried rows. -/
def bufJ (w : FVec Ideal S128x1024 .f32) : sc0.view.ty.Contents (Elt Ideal) :=
  sc0.view.writes (Elt Ideal) sc0.view.junk
    [⟨Rect.unit (s := S136x1024) ![8, 0] S128x1024.size inb_S136x1024_S128x1024_8_0, w⟩]

/-- What the halo buffer holds in the first chunk of a row: zeros, then the projection. -/
def bufF (w : FVec Ideal S128x1024 .f32) : sc0.view.ty.Contents (Elt Ideal) :=
  sc0.view.writes (Elt Ideal) sc0.view.junk
    [⟨Rect.unit (s := S136x1024) ![8, 0] S128x1024.size inb_S136x1024_S128x1024_8_0, w⟩,
      ⟨Rect.unit (s := S136x1024) ![0, 0] S8x1024.size inb_S136x1024_S8x1024_0_0, k0_pay7 (F := Ideal)⟩]

/-- The window of 128 rows of the halo buffer that starts at row `o`. -/
def winOf (C : sc0.view.ty.Contents (Elt Ideal)) (o : ℕ) (inb : ∀ a, (![o, 0] : Fin 2 → ℕ) a + S128x1024.size a ≤ S136x1024.size a) :
    FVec Ideal S128x1024 .f32 :=
  sc0.view.readAt (Elt Ideal) (Rect.unit (s := S136x1024) ![o, 0] S128x1024.size inb).toLoadRect C

/-- A window's entry is the buffer's entry `o` rows further down. -/
theorem winOf_at (C : sc0.view.ty.Contents (Elt Ideal)) (o : ℕ) (ho : o ≤ 8) (inb) (r : Fin 128) (d : Fin 1024) :
    winOf C o inb (ix2 r d) = sc0.view.read (Elt Ideal) C (ix2 (⟨o + r.val, by omega⟩ : Fin 136) d) := by
  refine congrArg (sc0.view.read (Elt Ideal) C) (funext fun a => Fin.ext ?_)
  fin_cases a
  · show o + 1 * r.val = o + r.val
    omega
  · show 0 + 1 * d.val = d.val
    omega

/-- From row eight on, the buffer holds the projection. -/
theorem buf_hi (f : sc0.view.ty.Contents (Elt Ideal)) (L : List (View.Piece (Elt Ideal) S136x1024 .f32)) (w : FVec Ideal S128x1024 .f32)
    (n : Fin 136) (r : Fin 128) (hn : n.val = 8 + r.val) (d : Fin 1024) :
    sc0.view.read (Elt Ideal) (sc0.view.writes (Elt Ideal) f
      (⟨Rect.unit (s := S136x1024) ![8, 0] S128x1024.size inb_S136x1024_S128x1024_8_0, w⟩ :: L)) (ix2 n d) = w (ix2 r d) := by
  refine View.read_writes_cons_unit_of_mem sc0.view f _ w L (ix2 n d) (ix2 r d) rfl fun a => ?_
  fin_cases a
  · exact hn
  · show d.val = 0 + d.val
    omega

/-- Above row eight, the projection's store changes nothing. -/
theorem buf_lo (f : sc0.view.ty.Contents (Elt Ideal)) (L : List (View.Piece (Elt Ideal) S136x1024 .f32)) (w : FVec Ideal S128x1024 .f32)
    (n : Fin 136) (hn : n.val < 8) (d : Fin 1024) :
    sc0.view.read (Elt Ideal) (sc0.view.writes (Elt Ideal) f
      (⟨Rect.unit (s := S136x1024) ![8, 0] S128x1024.size inb_S136x1024_S128x1024_8_0, w⟩ :: L)) (ix2 n d)
      = sc0.view.read (Elt Ideal) (sc0.view.writes (Elt Ideal) f L) (ix2 n d) :=
  View.read_writes_cons_unit_of_not_mem sc0.view f _ w L (ix2 n d) rfl 0 (Or.inl hn)

/-- The first eight rows read what was stored there last. -/
theorem buf_top (f : sc0.view.ty.Contents (Elt Ideal)) (L : List (View.Piece (Elt Ideal) S136x1024 .f32)) (w : FVec Ideal S8x1024 .f32)
    (n : Fin 136) (k : Fin 8) (hn : n.val = k.val) (d : Fin 1024) :
    sc0.view.read (Elt Ideal) (sc0.view.writes (Elt Ideal) f
      (⟨Rect.unit (s := S136x1024) ![0, 0] S8x1024.size inb_S136x1024_S8x1024_0_0, w⟩ :: L)) (ix2 n d) = w (ix2 k d) := by
  refine View.read_writes_cons_unit_of_mem sc0.view f _ w L (ix2 n d) (ix2 k d) rfl fun a => ?_
  fin_cases a
  · show n.val = 0 + k.val
    omega
  · show d.val = 0 + d.val
    omega

/-- The halo kept for the next chunk is the projection's last eight rows. -/
theorem halo_kept (f g : sc0.view.ty.Contents (Elt Ideal)) (L L' : List (View.Piece (Elt Ideal) S136x1024 .f32)) (w : FVec Ideal S128x1024 .f32)
    (k : Fin 8) (d : Fin 1024) :
    sc0.view.read (Elt Ideal) (sc0.view.writes (Elt Ideal) f
      (⟨Rect.unit (s := S136x1024) ![0, 0] S8x1024.size inb_S136x1024_S8x1024_0_0,
        k0_pay16 (F := Ideal) (sc0.view.readAt (Elt Ideal) (Rect.unit (s := S136x1024) ![128, 0] S8x1024.size inb_S136x1024_S8x1024_128_0).toLoadRect
          (sc0.view.writes (Elt Ideal) g
            (⟨Rect.unit (s := S136x1024) ![8, 0] S128x1024.size inb_S136x1024_S128x1024_8_0, w⟩ :: L)))⟩ :: L'))
      (ix2 (⟨k.val, by omega⟩ : Fin 136) d) = w (ix2 (⟨120 + k.val, by omega⟩ : Fin 128) d) := by
  refine (buf_top f L' _ _ k rfl d).trans ?_
  pointwise [k0_pay16]
  refine Eq.trans (congrArg (sc0.view.read (Elt Ideal) _) (?_ : _ = ix2 (⟨128 + k.val, by omega⟩ : Fin 136) d))
    (buf_hi g L w _ ⟨120 + k.val, by omega⟩ (by show 128 + k.val = 8 + (120 + k.val); omega) d)
  funext a
  refine Fin.ext ?_
  fin_cases a
  · show 128 + 1 * k.val = 128 + k.val
    omega
  · show 0 + 1 * d.val = d.val
    omega

/-- The carried state's load. -/
theorem ld_state (f3 : FVec Ideal S16x1024 .f32) : (sc3.view.readAt (Elt Ideal) (Rect.unit (s := S16x1024) ![0, 0] S16x1024.size inb_S16x1024_S16x1024_0_0).toLoadRect ((Memref.isWhole_whole cc0_scratch3).unread f3)) = f3 := by
  rw [View.readAt_full, Memref.IsWhole.read_unread]

/-- The fresh state's load. -/
theorem ld_zero : (sc3.view.readCov (Val := Elt Ideal) [⟨Rect.unit (s := S16x1024) ![0, 0] S16x1024.size inb_S16x1024_S16x1024_0_0, k0_pay8 (F := Ideal)⟩] (Rect.unit (s := S16x1024) ![0, 0] S16x1024.size inb_S16x1024_S16x1024_0_0).toLoadRect) = k0_pay8 (F := Ideal) := View.readCov_full sc3.view _ _ _ _

/-- The output block of a later chunk. -/
theorem runN_y (hc : ¬ isFirst i) (f0 : FVec Ideal S136x1024 .f32) (f3 : FVec Ideal S16x1024 .f32) :
    (kernelRunN (F := Ideal) c i hc M0 h0 M1 h1 M2 h2 M3 h3 M4 h4 M5 h5 M6 h6 M7 h7 M8 h8 M9 h9 M10 h10 M11 h11 x nw ip cw cb xp dp db al dd op f0 f3).2.2.1
      = outV c i M0 h0 M1 h1 M2 h2 M3 h3 M4 h4 M5 h5 M6 h6 M7 h7 M8 h8 M9 h9 M10 h10 M11 h11 x nw ip (cwRow cw 0) (cwRow cw 1) (cwRow cw 2) (cwRow cw 3) cb (winOf (bufN (k0_pay12 (F := Ideal) x nw ip) f0) 5 inb_S136x1024_S128x1024_5_0) (winOf (bufN (k0_pay12 (F := Ideal) x nw ip) f0) 6 inb_S136x1024_S128x1024_6_0) (winOf (bufN (k0_pay12 (F := Ideal) x nw ip) f0) 7 inb_S136x1024_S128x1024_7_0) (winOf (bufJ (k0_pay12 (F := Ideal) x nw ip)) 8 inb_S136x1024_S128x1024_8_0) xp dp db dd al op f3 := by
  unfold kernelRunN
  refine (View.read_writes_full M11.view _ _ _ _).trans ?_
  refine Eq.trans (b := outV c i M0 h0 M1 h1 M2 h2 M3 h3 M4 h4 M5 h5 M6 h6 M7 h7 M8 h8 M9 h9 M10 h10 M11 h11 (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)) (M3.view.readAt (Elt Ideal) (Rect.unit (s := S4x1024) ![0, 0] S1x1024.size inb_S4x1024_S1x1024_0_0).toLoadRect (h3.unread cw)) (M3.view.readAt (Elt Ideal) (Rect.unit (s := S4x1024) ![1, 0] S1x1024.size inb_S4x1024_S1x1024_1_0).toLoadRect (h3.unread cw)) (M3.view.readAt (Elt Ideal) (Rect.unit (s := S4x1024) ![2, 0] S1x1024.size inb_S4x1024_S1x1024_2_0).toLoadRect (h3.unread cw)) (M3.view.readAt (Elt Ideal) (Rect.unit (s := S4x1024) ![3, 0] S1x1024.size inb_S4x1024_S1x1024_3_0).toLoadRect (h3.unread cw)) (M4.view.readAt (Elt Ideal) (Rect.unit (s := S1x1024) ![0, 0] S1x1024.size inb_S1x1024_S1x1024_0_0).toLoadRect (h4.unread cb)) (winOf (bufN (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip))) f0) 5 inb_S136x1024_S128x1024_5_0) (winOf (bufN (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip))) f0) 6 inb_S136x1024_S128x1024_6_0) (winOf (bufN (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip))) f0) 7 inb_S136x1024_S128x1024_7_0) (winOf (bufJ (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 8 inb_S136x1024_S128x1024_8_0) (M5.view.readAt (Elt Ideal) (Rect.unit (s := S1024x64) ![0, 0] S1024x64.size inb_S1024x64_S1024x64_0_0).toLoadRect (h5.unread xp)) (M6.view.readAt (Elt Ideal) (Rect.unit (s := S32x1024) ![0, 0] S32x1024.size inb_S32x1024_S32x1024_0_0).toLoadRect (h6.unread dp)) (M7.view.readAt (Elt Ideal) (Rect.unit (s := S1x1024) ![0, 0] S1x1024.size inb_S1x1024_S1x1024_0_0).toLoadRect (h7.unread db)) (M9.view.readAt (Elt Ideal) (Rect.unit (s := S1x1024) ![0, 0] S1x1024.size inb_S1x1024_S1x1024_0_0).toLoadRect (h9.unread dd)) (M8.view.readAt (Elt Ideal) (Rect.unit (s := S16x1024) ![0, 0] S16x1024.size inb_S16x1024_S16x1024_0_0).toLoadRect (h8.unread al)) (M10.view.readAt (Elt Ideal) (Rect.unit (s := S1024x512) ![0, 0] S1024x512.size inb_S1024x512_S1024x512_0_0).toLoadRect (h10.unread op)) (sc3.view.readAt (Elt Ideal) (Rect.unit (s := S16x1024) ![0, 0] S16x1024.size inb_S16x1024_S16x1024_0_0).toLoadRect ((Memref.isWhole_whole cc0_scratch3).unread f3))) rfl ?_
  rw [ld_x M0 h0 x, ld_nw M1 h1 nw, ld_ip M2 h2 ip, ld_cb M4 h4 cb, ld_xp M5 h5 xp, ld_dp M6 h6 dp, ld_db M7 h7 db, ld_al M8 h8 al, ld_c0 M3 h3 cw, ld_c1 M3 h3 cw, ld_c2 M3 h3 cw, ld_c3 M3 h3 cw, ld_dd M9 h9 dd, ld_op M10 h10 op, ld_state f3]

/-- The state a later chunk keeps. -/
theorem runN_h (hc : ¬ isFirst i) (f0 : FVec Ideal S136x1024 .f32) (f3 : FVec Ideal S16x1024 .f32) :
    (kernelRunN (F := Ideal) c i hc M0 h0 M1 h1 M2 h2 M3 h3 M4 h4 M5 h5 M6 h6 M7 h7 M8 h8 M9 h9 M10 h10 M11 h11 x nw ip cw cb xp dp db al dd op f0 f3).2.1
      = lastV c i M0 h0 M1 h1 M2 h2 M3 h3 M4 h4 M5 h5 M6 h6 M7 h7 M8 h8 M9 h9 M10 h10 M11 h11 xp dp db al (cwRow cw 0) (cwRow cw 1) (cwRow cw 2) (cwRow cw 3) cb (winOf (bufN (k0_pay12 (F := Ideal) x nw ip) f0) 5 inb_S136x1024_S128x1024_5_0) (winOf (bufN (k0_pay12 (F := Ideal) x nw ip) f0) 6 inb_S136x1024_S128x1024_6_0) (winOf (bufN (k0_pay12 (F := Ideal) x nw ip) f0) 7 inb_S136x1024_S128x1024_7_0) (winOf (bufJ (k0_pay12 (F := Ideal) x nw ip)) 8 inb_S136x1024_S128x1024_8_0) f3 := by
  refine Eq.trans (b := lastV c i M0 h0 M1 h1 M2 h2 M3 h3 M4 h4 M5 h5 M6 h6 M7 h7 M8 h8 M9 h9 M10 h10 M11 h11 (M5.view.readAt (Elt Ideal) (Rect.unit (s := S1024x64) ![0, 0] S1024x64.size inb_S1024x64_S1024x64_0_0).toLoadRect (h5.unread xp)) (M6.view.readAt (Elt Ideal) (Rect.unit (s := S32x1024) ![0, 0] S32x1024.size inb_S32x1024_S32x1024_0_0).toLoadRect (h6.unread dp)) (M7.view.readAt (Elt Ideal) (Rect.unit (s := S1x1024) ![0, 0] S1x1024.size inb_S1x1024_S1x1024_0_0).toLoadRect (h7.unread db)) (M8.view.readAt (Elt Ideal) (Rect.unit (s := S16x1024) ![0, 0] S16x1024.size inb_S16x1024_S16x1024_0_0).toLoadRect (h8.unread al)) (M3.view.readAt (Elt Ideal) (Rect.unit (s := S4x1024) ![0, 0] S1x1024.size inb_S4x1024_S1x1024_0_0).toLoadRect (h3.unread cw)) (M3.view.readAt (Elt Ideal) (Rect.unit (s := S4x1024) ![1, 0] S1x1024.size inb_S4x1024_S1x1024_1_0).toLoadRect (h3.unread cw)) (M3.view.readAt (Elt Ideal) (Rect.unit (s := S4x1024) ![2, 0] S1x1024.size inb_S4x1024_S1x1024_2_0).toLoadRect (h3.unread cw)) (M3.view.readAt (Elt Ideal) (Rect.unit (s := S4x1024) ![3, 0] S1x1024.size inb_S4x1024_S1x1024_3_0).toLoadRect (h3.unread cw)) (M4.view.readAt (Elt Ideal) (Rect.unit (s := S1x1024) ![0, 0] S1x1024.size inb_S1x1024_S1x1024_0_0).toLoadRect (h4.unread cb)) (winOf (bufN (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip))) f0) 5 inb_S136x1024_S128x1024_5_0) (winOf (bufN (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip))) f0) 6 inb_S136x1024_S128x1024_6_0) (winOf (bufN (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip))) f0) 7 inb_S136x1024_S128x1024_7_0) (winOf (bufJ (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 8 inb_S136x1024_S128x1024_8_0) (sc3.view.readAt (Elt Ideal) (Rect.unit (s := S16x1024) ![0, 0] S16x1024.size inb_S16x1024_S16x1024_0_0).toLoadRect ((Memref.isWhole_whole cc0_scratch3).unread f3))) ?_
    (by rw [ld_x M0 h0 x, ld_nw M1 h1 nw, ld_ip M2 h2 ip, ld_cb M4 h4 cb, ld_xp M5 h5 xp, ld_dp M6 h6 dp, ld_db M7 h7 db, ld_al M8 h8 al, ld_c0 M3 h3 cw, ld_c1 M3 h3 cw, ld_c2 M3 h3 cw, ld_c3 M3 h3 cw, ld_state f3])
  unfold kernelRunN kernelRunN.sl.H15_1 lastV scanV
  dsimp only
  refine (keep_eq _ _).trans ?_
  refine congrArg Prod.fst ?_
  rfl

/-- The halo rows a later chunk keeps are the last eight rows it projected. -/
theorem runN_u (hc : ¬ isFirst i) (f0 : FVec Ideal S136x1024 .f32) (f3 : FVec Ideal S16x1024 .f32) (k : Fin 8) (d : Fin 1024) :
    (kernelRunN (F := Ideal) c i hc M0 h0 M1 h1 M2 h2 M3 h3 M4 h4 M5 h5 M6 h6 M7 h7 M8 h8 M9 h9 M10 h10 M11 h11 x nw ip cw cb xp dp db al dd op f0 f3).1 (ix2 ⟨k.val, by omega⟩ d)
      = k0_pay12 (F := Ideal) x nw ip (ix2 (⟨120 + k.val, by omega⟩ : Fin 128) d) := by
  refine Eq.trans (b := k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)) (ix2 (⟨120 + k.val, by omega⟩ : Fin 128) d)) ?_
    (by rw [ld_x M0 h0 x, ld_nw M1 h1 nw, ld_ip M2 h2 ip])
  unfold kernelRunN kernelRunN.sl.H12_2
  dsimp only
  exact halo_kept _ _ _ _ _ k d

/-- The output block of the first chunk of a row. -/
theorem runF_y (hc : isFirst i) :
    (kernelRunF (F := Ideal) c i hc M0 h0 M1 h1 M2 h2 M3 h3 M4 h4 M5 h5 M6 h6 M7 h7 M8 h8 M9 h9 M10 h10 M11 h11 x nw ip cw cb xp dp db al dd op).2.2.1
      = outV c i M0 h0 M1 h1 M2 h2 M3 h3 M4 h4 M5 h5 M6 h6 M7 h7 M8 h8 M9 h9 M10 h10 M11 h11 x nw ip (cwRow cw 0) (cwRow cw 1) (cwRow cw 2) (cwRow cw 3) cb (winOf (bufF (k0_pay12 (F := Ideal) x nw ip)) 5 inb_S136x1024_S128x1024_5_0) (winOf (bufF (k0_pay12 (F := Ideal) x nw ip)) 6 inb_S136x1024_S128x1024_6_0) (winOf (bufF (k0_pay12 (F := Ideal) x nw ip)) 7 inb_S136x1024_S128x1024_7_0) (winOf (bufF (k0_pay12 (F := Ideal) x nw ip)) 8 inb_S136x1024_S128x1024_8_0) xp dp db dd al op (k0_pay8 (F := Ideal)) := by
  unfold kernelRunF
  refine (View.read_writes_full M11.view _ _ _ _).trans ?_
  refine Eq.trans (b := outV c i M0 h0 M1 h1 M2 h2 M3 h3 M4 h4 M5 h5 M6 h6 M7 h7 M8 h8 M9 h9 M10 h10 M11 h11 (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)) (M3.view.readAt (Elt Ideal) (Rect.unit (s := S4x1024) ![0, 0] S1x1024.size inb_S4x1024_S1x1024_0_0).toLoadRect (h3.unread cw)) (M3.view.readAt (Elt Ideal) (Rect.unit (s := S4x1024) ![1, 0] S1x1024.size inb_S4x1024_S1x1024_1_0).toLoadRect (h3.unread cw)) (M3.view.readAt (Elt Ideal) (Rect.unit (s := S4x1024) ![2, 0] S1x1024.size inb_S4x1024_S1x1024_2_0).toLoadRect (h3.unread cw)) (M3.view.readAt (Elt Ideal) (Rect.unit (s := S4x1024) ![3, 0] S1x1024.size inb_S4x1024_S1x1024_3_0).toLoadRect (h3.unread cw)) (M4.view.readAt (Elt Ideal) (Rect.unit (s := S1x1024) ![0, 0] S1x1024.size inb_S1x1024_S1x1024_0_0).toLoadRect (h4.unread cb)) (winOf (bufF (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 5 inb_S136x1024_S128x1024_5_0) (winOf (bufF (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 6 inb_S136x1024_S128x1024_6_0) (winOf (bufF (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 7 inb_S136x1024_S128x1024_7_0) (winOf (bufF (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 8 inb_S136x1024_S128x1024_8_0) (M5.view.readAt (Elt Ideal) (Rect.unit (s := S1024x64) ![0, 0] S1024x64.size inb_S1024x64_S1024x64_0_0).toLoadRect (h5.unread xp)) (M6.view.readAt (Elt Ideal) (Rect.unit (s := S32x1024) ![0, 0] S32x1024.size inb_S32x1024_S32x1024_0_0).toLoadRect (h6.unread dp)) (M7.view.readAt (Elt Ideal) (Rect.unit (s := S1x1024) ![0, 0] S1x1024.size inb_S1x1024_S1x1024_0_0).toLoadRect (h7.unread db)) (M9.view.readAt (Elt Ideal) (Rect.unit (s := S1x1024) ![0, 0] S1x1024.size inb_S1x1024_S1x1024_0_0).toLoadRect (h9.unread dd)) (M8.view.readAt (Elt Ideal) (Rect.unit (s := S16x1024) ![0, 0] S16x1024.size inb_S16x1024_S16x1024_0_0).toLoadRect (h8.unread al)) (M10.view.readAt (Elt Ideal) (Rect.unit (s := S1024x512) ![0, 0] S1024x512.size inb_S1024x512_S1024x512_0_0).toLoadRect (h10.unread op)) (sc3.view.readCov (Val := Elt Ideal) [⟨Rect.unit (s := S16x1024) ![0, 0] S16x1024.size inb_S16x1024_S16x1024_0_0, k0_pay8 (F := Ideal)⟩] (Rect.unit (s := S16x1024) ![0, 0] S16x1024.size inb_S16x1024_S16x1024_0_0).toLoadRect)) rfl ?_
  rw [ld_x M0 h0 x, ld_nw M1 h1 nw, ld_ip M2 h2 ip, ld_cb M4 h4 cb, ld_xp M5 h5 xp, ld_dp M6 h6 dp, ld_db M7 h7 db, ld_al M8 h8 al, ld_c0 M3 h3 cw, ld_c1 M3 h3 cw, ld_c2 M3 h3 cw, ld_c3 M3 h3 cw, ld_dd M9 h9 dd, ld_op M10 h10 op, ld_zero]

/-- The state the first chunk of a row keeps. -/
theorem runF_h (hc : isFirst i) :
    (kernelRunF (F := Ideal) c i hc M0 h0 M1 h1 M2 h2 M3 h3 M4 h4 M5 h5 M6 h6 M7 h7 M8 h8 M9 h9 M10 h10 M11 h11 x nw ip cw cb xp dp db al dd op).2.1
      = lastV c i M0 h0 M1 h1 M2 h2 M3 h3 M4 h4 M5 h5 M6 h6 M7 h7 M8 h8 M9 h9 M10 h10 M11 h11 xp dp db al (cwRow cw 0) (cwRow cw 1) (cwRow cw 2) (cwRow cw 3) cb (winOf (bufF (k0_pay12 (F := Ideal) x nw ip)) 5 inb_S136x1024_S128x1024_5_0) (winOf (bufF (k0_pay12 (F := Ideal) x nw ip)) 6 inb_S136x1024_S128x1024_6_0) (winOf (bufF (k0_pay12 (F := Ideal) x nw ip)) 7 inb_S136x1024_S128x1024_7_0) (winOf (bufF (k0_pay12 (F := Ideal) x nw ip)) 8 inb_S136x1024_S128x1024_8_0) (k0_pay8 (F := Ideal)) := by
  refine Eq.trans (b := lastV c i M0 h0 M1 h1 M2 h2 M3 h3 M4 h4 M5 h5 M6 h6 M7 h7 M8 h8 M9 h9 M10 h10 M11 h11 (M5.view.readAt (Elt Ideal) (Rect.unit (s := S1024x64) ![0, 0] S1024x64.size inb_S1024x64_S1024x64_0_0).toLoadRect (h5.unread xp)) (M6.view.readAt (Elt Ideal) (Rect.unit (s := S32x1024) ![0, 0] S32x1024.size inb_S32x1024_S32x1024_0_0).toLoadRect (h6.unread dp)) (M7.view.readAt (Elt Ideal) (Rect.unit (s := S1x1024) ![0, 0] S1x1024.size inb_S1x1024_S1x1024_0_0).toLoadRect (h7.unread db)) (M8.view.readAt (Elt Ideal) (Rect.unit (s := S16x1024) ![0, 0] S16x1024.size inb_S16x1024_S16x1024_0_0).toLoadRect (h8.unread al)) (M3.view.readAt (Elt Ideal) (Rect.unit (s := S4x1024) ![0, 0] S1x1024.size inb_S4x1024_S1x1024_0_0).toLoadRect (h3.unread cw)) (M3.view.readAt (Elt Ideal) (Rect.unit (s := S4x1024) ![1, 0] S1x1024.size inb_S4x1024_S1x1024_1_0).toLoadRect (h3.unread cw)) (M3.view.readAt (Elt Ideal) (Rect.unit (s := S4x1024) ![2, 0] S1x1024.size inb_S4x1024_S1x1024_2_0).toLoadRect (h3.unread cw)) (M3.view.readAt (Elt Ideal) (Rect.unit (s := S4x1024) ![3, 0] S1x1024.size inb_S4x1024_S1x1024_3_0).toLoadRect (h3.unread cw)) (M4.view.readAt (Elt Ideal) (Rect.unit (s := S1x1024) ![0, 0] S1x1024.size inb_S1x1024_S1x1024_0_0).toLoadRect (h4.unread cb)) (winOf (bufF (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 5 inb_S136x1024_S128x1024_5_0) (winOf (bufF (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 6 inb_S136x1024_S128x1024_6_0) (winOf (bufF (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 7 inb_S136x1024_S128x1024_7_0) (winOf (bufF (k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)))) 8 inb_S136x1024_S128x1024_8_0) (sc3.view.readCov (Val := Elt Ideal) [⟨Rect.unit (s := S16x1024) ![0, 0] S16x1024.size inb_S16x1024_S16x1024_0_0, k0_pay8 (F := Ideal)⟩] (Rect.unit (s := S16x1024) ![0, 0] S16x1024.size inb_S16x1024_S16x1024_0_0).toLoadRect)) ?_
    (by rw [ld_x M0 h0 x, ld_nw M1 h1 nw, ld_ip M2 h2 ip, ld_cb M4 h4 cb, ld_xp M5 h5 xp, ld_dp M6 h6 dp, ld_db M7 h7 db, ld_al M8 h8 al, ld_c0 M3 h3 cw, ld_c1 M3 h3 cw, ld_c2 M3 h3 cw, ld_c3 M3 h3 cw, ld_zero])
  unfold kernelRunF kernelRunF.sl.H15_2 lastV scanV
  dsimp only
  refine (keep_eq _ _).trans ?_
  refine congrArg Prod.fst ?_
  rfl

/-- The halo rows the first chunk of a row keeps are the last eight rows it projected. -/
theorem runF_u (hc : isFirst i) (k : Fin 8) (d : Fin 1024) :
    (kernelRunF (F := Ideal) c i hc M0 h0 M1 h1 M2 h2 M3 h3 M4 h4 M5 h5 M6 h6 M7 h7 M8 h8 M9 h9 M10 h10 M11 h11 x nw ip cw cb xp dp db al dd op).1 (ix2 ⟨k.val, by omega⟩ d)
      = k0_pay12 (F := Ideal) x nw ip (ix2 (⟨120 + k.val, by omega⟩ : Fin 128) d) := by
  refine Eq.trans (b := k0_pay12 (F := Ideal) (M0.view.readAt (Elt Ideal) (Rect.unit (s := S1x128x512) ![0, 0, 0] S1x128x512.size inb_S1x128x512_S1x128x512_0_0_0).toLoadRect (h0.unread x)) (M1.view.readAt (Elt Ideal) (Rect.unit (s := S1x512) ![0, 0] S1x512.size inb_S1x512_S1x512_0_0).toLoadRect (h1.unread nw)) (M2.view.readAt (Elt Ideal) (Rect.unit (s := S512x2048) ![0, 0] S512x2048.size inb_S512x2048_S512x2048_0_0).toLoadRect (h2.unread ip)) (ix2 (⟨120 + k.val, by omega⟩ : Fin 128) d)) ?_
    (by rw [ld_x M0 h0 x, ld_nw M1 h1 nw, ld_ip M2 h2 ip])
  unfold kernelRunF kernelRunF.sl.H12_3
  dsimp only
  exact halo_kept _ _ _ _ _ k d

end Cert.KernelIdeal.Hand

end
-- ==== Proof.Seq.lean ====
/-
  One chunk of a sequence: when the halo buffer holds the eight rows before the chunk and the state buffer the scan's state
  before it, the run leaves the layer's outputs at the chunk's times, the next halo and the next state.
-/
module

public import proofs.«01_k».proof.Proof.Opened
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Layer

variable (c : Dev nD) (i : grid0.Coords)
  (M0 : Memref sig .tc .vmem S1x128x512 .f32) (h0 : M0.IsWhole)
  (M1 : Memref sig .tc .vmem S1x512 .f32) (h1 : M1.IsWhole)
  (M2 : Memref sig .tc .vmem S512x2048 .f32) (h2 : M2.IsWhole)
  (M3 : Memref sig .tc .vmem S4x1024 .f32) (h3 : M3.IsWhole)
  (M4 : Memref sig .tc .vmem S1x1024 .f32) (h4 : M4.IsWhole)
  (M5 : Memref sig .tc .vmem S1024x64 .f32) (h5 : M5.IsWhole)
  (M6 : Memref sig .tc .vmem S32x1024 .f32) (h6 : M6.IsWhole)
  (M7 : Memref sig .tc .vmem S1x1024 .f32) (h7 : M7.IsWhole)
  (M8 : Memref sig .tc .vmem S16x1024 .f32) (h8 : M8.IsWhole)
  (M9 : Memref sig .tc .vmem S1x1024 .f32) (h9 : M9.IsWhole)
  (M10 : Memref sig .tc .vmem S1024x512 .f32) (h10 : M10.IsWhole)
  (M11 : Memref sig .tc .vmem S1x128x512 .f32) (h11 : M11.IsWhole)
  (x : FVec Ideal S1x128x512 .f32) (nw : FVec Ideal S1x512 .f32) (ip : FVec Ideal S512x2048 .f32) (cw : FVec Ideal S4x1024 .f32)
  (cb : FVec Ideal S1x1024 .f32) (xp : FVec Ideal S1024x64 .f32) (dp : FVec Ideal S32x1024 .f32) (db : FVec Ideal S1x1024 .f32)
  (al : FVec Ideal S16x1024 .f32) (dd : FVec Ideal S1x1024 .f32) (op : FVec Ideal S1024x512 .f32)

/-- What the halo buffer holds at row `m` in chunk `n` of a sequence: the projection eight rows back, zero before the start. -/
def bufAt (W : Weights) (X : ℕ → Fin 512 → EReal) (n m : ℕ) (d : Fin 1024) : EReal :=
  if 128 * n + m < 8 then 0 else uIn W (X (128 * n + m - 8)) d

/-- Past the halo it is the chunk's own projection. -/
theorem bufAt_hi (W : Weights) (X : ℕ → Fin 512 → EReal) (n m : ℕ) (hm : 8 ≤ m) (d : Fin 1024) :
    bufAt W X n m d = uIn W (X (128 * n + (m - 8))) d := by
  refine (if_neg (by omega)).trans (congrArg (fun z => uIn W (X z) d) ?_)
  omega

/-- The tap `j` of row `r` sits at row `5 + j + r`. -/
theorem bufAt_tap (W : Weights) (X : ℕ → Fin 512 → EReal) (n : ℕ) (r : Fin 128) (j : Fin 4) (d : Fin 1024) :
    bufAt W X n (5 + j.val + r.val) d = tapAt W X (128 * n + r.val) j d := by
  unfold bufAt tapAt
  by_cases hp : 128 * n + r.val + j.val < 3
  · rw [if_pos hp, if_pos (by omega)]
  · rw [if_neg hp, if_neg (by omega)]
    exact congrArg (fun z => uIn W (X z) d) (by omega)

/-- The next chunk's halo is this chunk's last eight rows. -/
theorem bufAt_next (W : Weights) (X : ℕ → Fin 512 → EReal) (n : ℕ) (k : Fin 8) (d : Fin 1024) :
    uIn W (X (128 * n + (⟨120 + k.val, by omega⟩ : Fin 128).val)) d = bufAt W X (n + 1) k.val d := by
  refine Eq.trans (congrArg (fun z => uIn W (X z) d) ?_) (if_neg (by omega)).symm
  show 128 * n + (120 + k.val) = 128 * (n + 1) + k.val - 8
  omega

/-- The four windows of a buffer that holds a chunk of the sequence are the layer's taps. -/
theorem taps_seq (W : Weights) (X : ℕ → Fin 512 → EReal) (n : ℕ) (C D : sc0.view.ty.Contents (Elt Ideal))
    (hC : ∀ (m : Fin 136) (d : Fin 1024), sc0.view.read (Elt Ideal) C (ix2 m d) = bufAt W X n m.val d)
    (hD : ∀ (m : Fin 136) (d : Fin 1024), 8 ≤ m.val → sc0.view.read (Elt Ideal) D (ix2 m d) = bufAt W X n m.val d)
    (r : Fin 128) (j : Fin 4) (d : Fin 1024) :
    taps (winOf C 5 inb_S136x1024_S128x1024_5_0) (winOf C 6 inb_S136x1024_S128x1024_6_0) (winOf C 7 inb_S136x1024_S128x1024_7_0)
      (winOf D 8 inb_S136x1024_S128x1024_8_0) r j d = tapAt W X (128 * n + r.val) j d := by
  refine Eq.trans ?_ (bufAt_tap W X n r j d)
  unfold taps
  match j with
  | 0 => exact (winOf_at C 5 (by omega) _ r d).trans (hC _ d)
  | 1 => exact (winOf_at C 6 (by omega) _ r d).trans (hC _ d)
  | 2 => exact (winOf_at C 7 (by omega) _ r d).trans (hC _ d)
  | 3 => exact (winOf_at D 8 (by omega) _ r d).trans (hD _ d (by show 8 ≤ 8 + r.val; omega))

/-- Past the halo, a buffer the chunk's projection was stored in holds the chunk of the sequence. -/
theorem buf_seq_hi (W : Weights) (X : ℕ → Fin 512 → EReal) (n : ℕ) (w : FVec Ideal S128x1024 .f32)
    (hw : ∀ (r : Fin 128) (d : Fin 1024), w (ix2 r d) = uIn W (X (128 * n + r.val)) d)
    (f : sc0.view.ty.Contents (Elt Ideal)) (L : List (View.Piece (Elt Ideal) S136x1024 .f32)) (m : Fin 136) (d : Fin 1024) (h : 8 ≤ m.val) :
    sc0.view.read (Elt Ideal) (sc0.view.writes (Elt Ideal) f
      (⟨Rect.unit (s := S136x1024) ![8, 0] S128x1024.size inb_S136x1024_S128x1024_8_0, w⟩ :: L)) (ix2 m d) = bufAt W X n m.val d :=
  (buf_hi f L w m ⟨m.val - 8, by omega⟩ (by show m.val = 8 + (m.val - 8); omega) d).trans ((hw _ d).trans (bufAt_hi W X n m.val h d).symm)

/-- The state a row starts at is zero. -/
theorem pay8_at (s : Fin 16) (d : Fin 1024) : k0_pay8 (F := Ideal) (ix2 s d) = (0 : EReal) := by
  pointwise [k0_pay8]

/-- The buffer of a later chunk. -/
theorem bufN_seq (W : Weights) (X : ℕ → Fin 512 → EReal) (n : ℕ) (w : FVec Ideal S128x1024 .f32)
    (hw : ∀ (r : Fin 128) (d : Fin 1024), w (ix2 r d) = uIn W (X (128 * n + r.val)) d) (f0 : FVec Ideal S136x1024 .f32)
    (hu : ∀ (k : Fin 8) (d : Fin 1024), f0 (ix2 ⟨k.val, by omega⟩ d) = bufAt W X n k.val d) (m : Fin 136) (d : Fin 1024) :
    sc0.view.read (Elt Ideal) (bufN w f0) (ix2 m d) = bufAt W X n m.val d := by
  by_cases h : m.val < 8
  · refine (buf_lo _ [] w m h d).trans ?_
    show sc0.view.read (Elt Ideal) ((Memref.isWhole_whole cc0_scratch0).unread f0) (ix2 m d) = _
    rw [Memref.IsWhole.read_unread]
    exact hu ⟨m.val, h⟩ d
  · exact buf_seq_hi W X n w hw _ _ m d (by omega)

/-- The buffer of the first chunk. -/
theorem bufF_seq (W : Weights) (X : ℕ → Fin 512 → EReal) (w : FVec Ideal S128x1024 .f32)
    (hw : ∀ (r : Fin 128) (d : Fin 1024), w (ix2 r d) = uIn W (X (128 * 0 + r.val)) d) (m : Fin 136) (d : Fin 1024) :
    sc0.view.read (Elt Ideal) (bufF w) (ix2 m d) = bufAt W X 0 m.val d := by
  by_cases h : m.val < 8
  · refine (buf_lo _ _ w m h d).trans ((buf_top _ [] _ m ⟨m.val, h⟩ rfl d).trans ?_)
    refine Eq.trans (b := (0 : EReal)) ?_ (if_pos (by omega)).symm
    pointwise [k0_pay7]
  · exact buf_seq_hi W X 0 w hw _ _ m d (by omega)

section Core

variable (cw0 cw1 cw2 cw3 : FVec Ideal S1x1024 .f32) (t0 t1 t2 t3 : FVec Ideal S128x1024 .f32) (h : FVec Ideal S16x1024 .f32)

/-- The chunk's recurrence continues the sequence's. -/
theorem hRec_seq (X : ℕ → Fin 512 → EReal) (n : ℕ)
    (htap : ∀ (r : Fin 128) (j : Fin 4) (d : Fin 1024), taps t0 t1 t2 t3 r j d = tapAt (blkW nw ip cw0 cw1 cw2 cw3 cb xp dp db dd al op) X (128 * n + r.val) j d)
    (hh : ∀ s d, h (ix2 s d) = hSeq (blkW nw ip cw0 cw1 cw2 cw3 cb xp dp db dd al op) X (128 * n) s d) (k : ℕ) (hk : k ≤ 128) :
    hRec (blkW nw ip cw0 cw1 cw2 cw3 cb xp dp db dd al op) (rowsV nw ip cw0 cw1 cw2 cw3 cb t0 t1 t2 t3 xp dp db dd al op) (fun s d => h (ix2 s d)) k = hSeq (blkW nw ip cw0 cw1 cw2 cw3 cb xp dp db dd al op) X (128 * n + k) := by
  refine Eq.trans ?_ (hRec_add (blkW nw ip cw0 cw1 cw2 cw3 cb xp dp db dd al op) (uAt (blkW nw ip cw0 cw1 cw2 cw3 cb xp dp db dd al op) X) (fun _ _ => 0) (128 * n) k).symm
  have e : (fun s d => h (ix2 s d)) = hRec (blkW nw ip cw0 cw1 cw2 cw3 cb xp dp db dd al op) (uAt (blkW nw ip cw0 cw1 cw2 cw3 cb xp dp db dd al op) X) (fun _ _ => 0) (128 * n) := funext fun s => funext fun d => hh s d
  rw [e]
  refine hRec_congr (blkW nw ip cw0 cw1 cw2 cw3 cb xp dp db dd al op) _ k fun q hq => ?_
  show act (blkW nw ip cw0 cw1 cw2 cw3 cb xp dp db dd al op) (taps t0 t1 t2 t3 (row q)) = act (blkW nw ip cw0 cw1 cw2 cw3 cb xp dp db dd al op) (tapAt (blkW nw ip cw0 cw1 cw2 cw3 cb xp dp db dd al op) X (128 * n + q))
  refine congrArg (act (blkW nw ip cw0 cw1 cw2 cw3 cb xp dp db dd al op)) (funext fun j => funext fun d => (htap (row q) j d).trans ?_)
  have hr : (row q).val = q := Nat.mod_eq_of_lt (by omega)
  rw [hr]

/-- The state after a chunk of a sequence. -/
theorem lastV_seq (X : ℕ → Fin 512 → EReal) (n : ℕ)
    (hx : ∀ (r : Fin 128) (k : Fin 512), x (ix3 0 r k) = X (128 * n + r.val) k)
    (htap : ∀ (r : Fin 128) (j : Fin 4) (d : Fin 1024), taps t0 t1 t2 t3 r j d = tapAt (blkW nw ip cw0 cw1 cw2 cw3 cb xp dp db dd al op) X (128 * n + r.val) j d)
    (hh : ∀ s d, h (ix2 s d) = hSeq (blkW nw ip cw0 cw1 cw2 cw3 cb xp dp db dd al op) X (128 * n) s d) (s : Fin 16) (d : Fin 1024) :
    lastV c i M0 h0 M1 h1 M2 h2 M3 h3 M4 h4 M5 h5 M6 h6 M7 h7 M8 h8 M9 h9 M10 h10 M11 h11 xp dp db al cw0 cw1 cw2 cw3 cb t0 t1 t2 t3 h (ix2 s d) = hSeq (blkW nw ip cw0 cw1 cw2 cw3 cb xp dp db dd al op) X (128 * (n + 1)) s d := by
  unfold lastV
  refine (scanV_state c i M0 h0 M1 h1 M2 h2 M3 h3 M4 h4 M5 h5 M6 h6 M7 h7 M8 h8 M9 h9 M10 h10 M11 h11 nw ip cw0 cw1 cw2 cw3 cb t0 t1 t2 t3 xp dp db dd al op h s d).trans ?_
  rw [hRec_seq nw ip cb xp dp db al dd op cw0 cw1 cw2 cw3 t0 t1 t2 t3 h X n htap hh 128 le_rfl]
  rfl

/-- The outputs of a chunk of a sequence. -/
theorem outV_seq (X : ℕ → Fin 512 → EReal) (n : ℕ)
    (hx : ∀ (r : Fin 128) (k : Fin 512), x (ix3 0 r k) = X (128 * n + r.val) k)
    (htap : ∀ (r : Fin 128) (j : Fin 4) (d : Fin 1024), taps t0 t1 t2 t3 r j d = tapAt (blkW nw ip cw0 cw1 cw2 cw3 cb xp dp db dd al op) X (128 * n + r.val) j d)
    (hh : ∀ s d, h (ix2 s d) = hSeq (blkW nw ip cw0 cw1 cw2 cw3 cb xp dp db dd al op) X (128 * n) s d) (r : Fin 128) (k : Fin 512) :
    outV c i M0 h0 M1 h1 M2 h2 M3 h3 M4 h4 M5 h5 M6 h6 M7 h7 M8 h8 M9 h9 M10 h10 M11 h11 x nw ip cw0 cw1 cw2 cw3 cb t0 t1 t2 t3 xp dp db dd al op h (ix3 0 r k) = outSeq (blkW nw ip cw0 cw1 cw2 cw3 cb xp dp db dd al op) X (128 * n + r.val) k := by
  refine (outV_at c i M0 h0 M1 h1 M2 h2 M3 h3 M4 h4 M5 h5 M6 h6 M7 h7 M8 h8 M9 h9 M10 h10 M11 h11 x nw ip cw0 cw1 cw2 cw3 cb t0 t1 t2 t3 xp dp db dd al op h r k).trans ?_
  rw [hRec_seq nw ip cb xp dp db al dd op cw0 cw1 cw2 cw3 t0 t1 t2 t3 h X n htap hh (r.val + 1) (by omega)]
  have hxr : (fun k => x (ix3 0 r k)) = X (128 * n + r.val) := funext fun k => hx r k
  have hu : (rowsV nw ip cw0 cw1 cw2 cw3 cb t0 t1 t2 t3 xp dp db dd al op) r.val = uAt (blkW nw ip cw0 cw1 cw2 cw3 cb xp dp db dd al op) X (128 * n + r.val) := by
    show act (blkW nw ip cw0 cw1 cw2 cw3 cb xp dp db dd al op) (taps t0 t1 t2 t3 (row r.val)) = act (blkW nw ip cw0 cw1 cw2 cw3 cb xp dp db dd al op) (tapAt (blkW nw ip cw0 cw1 cw2 cw3 cb xp dp db dd al op) X (128 * n + r.val))
    refine congrArg (act (blkW nw ip cw0 cw1 cw2 cw3 cb xp dp db dd al op)) (funext fun j => funext fun d => (htap (row r.val) j d).trans ?_)
    have hr : (row r.val).val = r.val := Nat.mod_eq_of_lt r.isLt
    rw [hr]
  rw [hxr, hu]
  rfl

end Core

/-- A later chunk of a sequence. -/
theorem runN_seq (hc : ¬ isFirst i) (f0 : FVec Ideal S136x1024 .f32) (f3 : FVec Ideal S16x1024 .f32) (n : ℕ) (X : ℕ → Fin 512 → EReal)
    (hx : ∀ (r : Fin 128) (k : Fin 512), x (ix3 0 r k) = X (128 * n + r.val) k)
    (hu : ∀ (k : Fin 8) (d : Fin 1024), f0 (ix2 ⟨k.val, by omega⟩ d) = bufAt (blkW nw ip (cwRow cw 0) (cwRow cw 1) (cwRow cw 2) (cwRow cw 3) cb xp dp db dd al op) X n k.val d)
    (hh : ∀ s d, f3 (ix2 s d) = hSeq (blkW nw ip (cwRow cw 0) (cwRow cw 1) (cwRow cw 2) (cwRow cw 3) cb xp dp db dd al op) X (128 * n) s d) :
    (∀ (k : Fin 8) (d : Fin 1024), (kernelRunN (F := Ideal) c i hc M0 h0 M1 h1 M2 h2 M3 h3 M4 h4 M5 h5 M6 h6 M7 h7 M8 h8 M9 h9 M10 h10 M11 h11 x nw ip cw cb xp dp db al dd op f0 f3).1 (ix2 ⟨k.val, by omega⟩ d)
        = bufAt (blkW nw ip (cwRow cw 0) (cwRow cw 1) (cwRow cw 2) (cwRow cw 3) cb xp dp db dd al op) X (n + 1) k.val d)
    ∧ (∀ s d, (kernelRunN (F := Ideal) c i hc M0 h0 M1 h1 M2 h2 M3 h3 M4 h4 M5 h5 M6 h6 M7 h7 M8 h8 M9 h9 M10 h10 M11 h11 x nw ip cw cb xp dp db al dd op f0 f3).2.1 (ix2 s d)
        = hSeq (blkW nw ip (cwRow cw 0) (cwRow cw 1) (cwRow cw 2) (cwRow cw 3) cb xp dp db dd al op) X (128 * (n + 1)) s d)
    ∧ ∀ r k, (kernelRunN (F := Ideal) c i hc M0 h0 M1 h1 M2 h2 M3 h3 M4 h4 M5 h5 M6 h6 M7 h7 M8 h8 M9 h9 M10 h10 M11 h11 x nw ip cw cb xp dp db al dd op f0 f3).2.2.1 (ix3 0 r k)
        = outSeq (blkW nw ip (cwRow cw 0) (cwRow cw 1) (cwRow cw 2) (cwRow cw 3) cb xp dp db dd al op) X (128 * n + r.val) k := by
  have hw : ∀ (r : Fin 128) (d : Fin 1024), k0_pay12 (F := Ideal) x nw ip (ix2 r d) = uIn (blkW nw ip (cwRow cw 0) (cwRow cw 1) (cwRow cw 2) (cwRow cw 3) cb xp dp db dd al op) (X (128 * n + r.val)) d := fun r d =>
    (pay12_at x nw ip (cwRow cw 0) (cwRow cw 1) (cwRow cw 2) (cwRow cw 3) cb xp dp db dd al op r d).trans
      (congrArg (fun z => uIn (blkW nw ip (cwRow cw 0) (cwRow cw 1) (cwRow cw 2) (cwRow cw 3) cb xp dp db dd al op) z d) (funext fun k => hx r k))
  have htap := taps_seq (blkW nw ip (cwRow cw 0) (cwRow cw 1) (cwRow cw 2) (cwRow cw 3) cb xp dp db dd al op) X n (bufN (k0_pay12 (F := Ideal) x nw ip) f0) (bufJ (k0_pay12 (F := Ideal) x nw ip)) (bufN_seq _ X n _ hw f0 hu) (buf_seq_hi _ X n _ hw _ _)
  refine ⟨fun k d => ?_, fun s d => ?_, fun r k => ?_⟩
  · rw [runN_u c i M0 h0 M1 h1 M2 h2 M3 h3 M4 h4 M5 h5 M6 h6 M7 h7 M8 h8 M9 h9 M10 h10 M11 h11 x nw ip cw cb xp dp db al dd op hc f0 f3 k d, hw]
    exact bufAt_next (blkW nw ip (cwRow cw 0) (cwRow cw 1) (cwRow cw 2) (cwRow cw 3) cb xp dp db dd al op) X n k d
  · rw [runN_h c i M0 h0 M1 h1 M2 h2 M3 h3 M4 h4 M5 h5 M6 h6 M7 h7 M8 h8 M9 h9 M10 h10 M11 h11 x nw ip cw cb xp dp db al dd op hc f0 f3]
    exact lastV_seq c i M0 h0 M1 h1 M2 h2 M3 h3 M4 h4 M5 h5 M6 h6 M7 h7 M8 h8 M9 h9 M10 h10 M11 h11 x nw ip cb xp dp db al dd op (cwRow cw 0) (cwRow cw 1) (cwRow cw 2) (cwRow cw 3) (winOf (bufN (k0_pay12 (F := Ideal) x nw ip) f0) 5 inb_S136x1024_S128x1024_5_0) (winOf (bufN (k0_pay12 (F := Ideal) x nw ip) f0) 6 inb_S136x1024_S128x1024_6_0) (winOf (bufN (k0_pay12 (F := Ideal) x nw ip) f0) 7 inb_S136x1024_S128x1024_7_0) (winOf (bufJ (k0_pay12 (F := Ideal) x nw ip)) 8 inb_S136x1024_S128x1024_8_0) f3 X n hx htap hh s d
  · rw [runN_y c i M0 h0 M1 h1 M2 h2 M3 h3 M4 h4 M5 h5 M6 h6 M7 h7 M8 h8 M9 h9 M10 h10 M11 h11 x nw ip cw cb xp dp db al dd op hc f0 f3]
    exact outV_seq c i M0 h0 M1 h1 M2 h2 M3 h3 M4 h4 M5 h5 M6 h6 M7 h7 M8 h8 M9 h9 M10 h10 M11 h11 x nw ip cb xp dp db al dd op (cwRow cw 0) (cwRow cw 1) (cwRow cw 2) (cwRow cw 3) (winOf (bufN (k0_pay12 (F := Ideal) x nw ip) f0) 5 inb_S136x1024_S128x1024_5_0) (winOf (bufN (k0_pay12 (F := Ideal) x nw ip) f0) 6 inb_S136x1024_S128x1024_6_0) (winOf (bufN (k0_pay12 (F := Ideal) x nw ip) f0) 7 inb_S136x1024_S128x1024_7_0) (winOf (bufJ (k0_pay12 (F := Ideal) x nw ip)) 8 inb_S136x1024_S128x1024_8_0) f3 X n hx htap hh r k

/-- The first chunk of a sequence. -/
theorem runF_seq (hc : isFirst i) (X : ℕ → Fin 512 → EReal)
    (hx : ∀ (r : Fin 128) (k : Fin 512), x (ix3 0 r k) = X (128 * 0 + r.val) k) :
    (∀ (k : Fin 8) (d : Fin 1024), (kernelRunF (F := Ideal) c i hc M0 h0 M1 h1 M2 h2 M3 h3 M4 h4 M5 h5 M6 h6 M7 h7 M8 h8 M9 h9 M10 h10 M11 h11 x nw ip cw cb xp dp db al dd op).1 (ix2 ⟨k.val, by omega⟩ d)
        = bufAt (blkW nw ip (cwRow cw 0) (cwRow cw 1) (cwRow cw 2) (cwRow cw 3) cb xp dp db dd al op) X (0 + 1) k.val d)
    ∧ (∀ s d, (kernelRunF (F := Ideal) c i hc M0 h0 M1 h1 M2 h2 M3 h3 M4 h4 M5 h5 M6 h6 M7 h7 M8 h8 M9 h9 M10 h10 M11 h11 x nw ip cw cb xp dp db al dd op).2.1 (ix2 s d)
        = hSeq (blkW nw ip (cwRow cw 0) (cwRow cw 1) (cwRow cw 2) (cwRow cw 3) cb xp dp db dd al op) X (128 * (0 + 1)) s d)
    ∧ ∀ r k, (kernelRunF (F := Ideal) c i hc M0 h0 M1 h1 M2 h2 M3 h3 M4 h4 M5 h5 M6 h6 M7 h7 M8 h8 M9 h9 M10 h10 M11 h11 x nw ip cw cb xp dp db al dd op).2.2.1 (ix3 0 r k)
        = outSeq (blkW nw ip (cwRow cw 0) (cwRow cw 1) (cwRow cw 2) (cwRow cw 3) cb xp dp db dd al op) X (128 * 0 + r.val) k := by
  have hw : ∀ (r : Fin 128) (d : Fin 1024), k0_pay12 (F := Ideal) x nw ip (ix2 r d) = uIn (blkW nw ip (cwRow cw 0) (cwRow cw 1) (cwRow cw 2) (cwRow cw 3) cb xp dp db dd al op) (X (128 * 0 + r.val)) d := fun r d =>
    (pay12_at x nw ip (cwRow cw 0) (cwRow cw 1) (cwRow cw 2) (cwRow cw 3) cb xp dp db dd al op r d).trans
      (congrArg (fun z => uIn (blkW nw ip (cwRow cw 0) (cwRow cw 1) (cwRow cw 2) (cwRow cw 3) cb xp dp db dd al op) z d) (funext fun k => hx r k))
  have htap := taps_seq (blkW nw ip (cwRow cw 0) (cwRow cw 1) (cwRow cw 2) (cwRow cw 3) cb xp dp db dd al op) X 0 (bufF (k0_pay12 (F := Ideal) x nw ip)) (bufF (k0_pay12 (F := Ideal) x nw ip)) (bufF_seq _ X _ hw) (buf_seq_hi _ X 0 _ hw _ _)
  refine ⟨fun k d => ?_, fun s d => ?_, fun r k => ?_⟩
  · rw [runF_u c i M0 h0 M1 h1 M2 h2 M3 h3 M4 h4 M5 h5 M6 h6 M7 h7 M8 h8 M9 h9 M10 h10 M11 h11 x nw ip cw cb xp dp db al dd op hc k d, hw]
    exact bufAt_next (blkW nw ip (cwRow cw 0) (cwRow cw 1) (cwRow cw 2) (cwRow cw 3) cb xp dp db dd al op) X 0 k d
  · rw [runF_h c i M0 h0 M1 h1 M2 h2 M3 h3 M4 h4 M5 h5 M6 h6 M7 h7 M8 h8 M9 h9 M10 h10 M11 h11 x nw ip cw cb xp dp db al dd op hc]
    exact lastV_seq c i M0 h0 M1 h1 M2 h2 M3 h3 M4 h4 M5 h5 M6 h6 M7 h7 M8 h8 M9 h9 M10 h10 M11 h11 x nw ip cb xp dp db al dd op (cwRow cw 0) (cwRow cw 1) (cwRow cw 2) (cwRow cw 3) (winOf (bufF (k0_pay12 (F := Ideal) x nw ip)) 5 inb_S136x1024_S128x1024_5_0) (winOf (bufF (k0_pay12 (F := Ideal) x nw ip)) 6 inb_S136x1024_S128x1024_6_0) (winOf (bufF (k0_pay12 (F := Ideal) x nw ip)) 7 inb_S136x1024_S128x1024_7_0) (winOf (bufF (k0_pay12 (F := Ideal) x nw ip)) 8 inb_S136x1024_S128x1024_8_0) (k0_pay8 (F := Ideal)) X 0 hx htap pay8_at s d
  · rw [runF_y c i M0 h0 M1 h1 M2 h2 M3 h3 M4 h4 M5 h5 M6 h6 M7 h7 M8 h8 M9 h9 M10 h10 M11 h11 x nw ip cw cb xp dp db al dd op hc]
    exact outV_seq c i M0 h0 M1 h1 M2 h2 M3 h3 M4 h4 M5 h5 M6 h6 M7 h7 M8 h8 M9 h9 M10 h10 M11 h11 x nw ip cb xp dp db al dd op (cwRow cw 0) (cwRow cw 1) (cwRow cw 2) (cwRow cw 3) (winOf (bufF (k0_pay12 (F := Ideal) x nw ip)) 5 inb_S136x1024_S128x1024_5_0) (winOf (bufF (k0_pay12 (F := Ideal) x nw ip)) 6 inb_S136x1024_S128x1024_6_0) (winOf (bufF (k0_pay12 (F := Ideal) x nw ip)) 7 inb_S136x1024_S128x1024_7_0) (winOf (bufF (k0_pay12 (F := Ideal) x nw ip)) 8 inb_S136x1024_S128x1024_8_0) (k0_pay8 (F := Ideal)) X 0 hx htap pay8_at r k

end Cert.KernelIdeal.Hand

end
-- ==== Proof.Args.lean ====
/-
  The layer's weights and input sequences, from the arguments as the caller passes them.
-/
module

public import proofs.«01_k».proof.KernelIdeal
public import proofs.«01_k».proof.Proof.Spec

@[expose] public section

noncomputable section

namespace Cert.Layer

open Cert.KernelIdeal
open Idealize.ShloMosaic

/-- The weights, from the arguments as the caller passes them. -/
def argW (a2 : FVec Ideal S512 .f32) (a3 : FVec Ideal S2048x512 .f32) (a4 : FVec Ideal S1024x1x4 .f32) (a5 : FVec Ideal S1024 .f32)
    (a6 : FVec Ideal S64x1024 .f32) (a7 : FVec Ideal S1024x32 .f32) (a8 : FVec Ideal S1024 .f32) (a9 : FVec Ideal S1024x16 .f32)
    (a10 : FVec Ideal S1024 .f32) (a11 : FVec Ideal S512x1024 .f32) : Weights where
  nw := fun k => a2 (ix1 k)
  ip := fun e k => a3 (ix2 e k)
  cw := fun d j => a4 (ix3 d 0 j)
  cb := fun d => a5 (ix1 d)
  xp := fun e d => a6 (ix2 e d)
  dp := fun d k => a7 (ix2 d k)
  db := fun d => a8 (ix1 d)
  al := fun d s => a9 (ix2 d s)
  dd := fun d => a10 (ix1 d)
  op := fun k d => a11 (ix2 k d)

/-- One row of the batch as a sequence. -/
def rowSeq (a0 : FVec Ideal S2x2048x512 .f32) (b : Fin 2) (t : ℕ) (k : Fin 512) : EReal :=
  a0 (ix3 b (⟨t % 2048, Nat.mod_lt _ (by decide)⟩ : Fin 2048) k)

end Cert.Layer

end
-- ==== Proof.Points.lean ====
/-
  The grid's points: each is one chunk of one row of the batch. The blocks a point reads, as entries of the launch's
  arguments, and the arrays the host operations prepared from them.
-/
module

public import proofs.«01_k».proof.Proof.Run
public import proofs.«01_k».proof.Proof.Seq
public import proofs.«01_k».proof.Proof.Args
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Layer

variable (m : (ℓ : Loc nD τ sig) → Buf (Elt Ideal) ℓ)

/-- The weights of a launch. -/
def memW (c : Dev nD) : Weights :=
  argW (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The windows' block indices. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val / 16, t.val % 16, 0] :=
  (by decide +kernel : ∀ t : Fin grid0.N, _)

/-- A point is the first chunk of its row when its number is a multiple of sixteen. -/
theorem isFirst_iff : ∀ t : Fin cfg0.N, isFirst (grid0.coords t) ↔ t.val % 16 = 0 :=
  (by decide +kernel : ∀ t : Fin grid0.N, isFirst (grid0.coords t) ↔ t.val % 16 = 0)

/-- The input's block: rows `128 * (t % 16) + r` of batch row `t / 16`. -/
theorem blk_x (c : Dev nD) (t : Fin cfg0.N) (b : Fin 2) (hb : b.val = t.val / 16) (r : Fin 128) (k : Fin 512) :
    (iblk m c 0 t : FVec Ideal S1x128x512 .f32) (ix3 0 r k) = rowSeq (m ((c : Thread nD τ).loc main_arg0)) b (128 * (t.val % 16) + r.val) k := by
  have ht : t.val < 32 := t.isLt
  unfold rowSeq
  blk_ext [iblk, V, idx t]

/-- The normalisation's weight. -/
theorem blk_nw (c : Dev nD) (t : Fin cfg0.N) (k : Fin 512) :
    (iblk m c 1 t : FVec Ideal S1x512 .f32) (ix2 0 k) = (m ((c : Thread nD τ).loc main_arg2)) (ix1 k) := by
  blk_point [iblk, V, idx t]

/-- The input projection. -/
theorem blk_ip (c : Dev nD) (t : Fin cfg0.N) (k : Fin 512) (e : Fin 2048) :
    (iblk m c 2 t : FVec Ideal S512x2048 .f32) (ix2 k e) = (m ((c : Thread nD τ).loc main_arg3)) (ix2 e k) := by
  blk_point [iblk, V, idx t]

/-- The convolution's taps. -/
theorem blk_cw (c : Dev nD) (t : Fin cfg0.N) (j : Fin 4) (d : Fin 1024) :
    (iblk m c 3 t : FVec Ideal S4x1024 .f32) (ix2 j d) = (m ((c : Thread nD τ).loc main_arg4)) (ix3 d 0 j) := by
  blk_point [iblk, V, idx t]

/-- The convolution's bias. -/
theorem blk_cb (c : Dev nD) (t : Fin cfg0.N) (d : Fin 1024) :
    (iblk m c 4 t : FVec Ideal S1x1024 .f32) (ix2 0 d) = (m ((c : Thread nD τ).loc main_arg5)) (ix1 d) := by
  blk_point [iblk, V, idx t]

/-- The projection of the activated rows. -/
theorem blk_xp (c : Dev nD) (t : Fin cfg0.N) (d : Fin 1024) (e : Fin 64) :
    (iblk m c 5 t : FVec Ideal S1024x64 .f32) (ix2 d e) = (m ((c : Thread nD τ).loc main_arg6)) (ix2 e d) := by
  blk_point [iblk, V, idx t]

/-- The step size's projection. -/
theorem blk_dp (c : Dev nD) (t : Fin cfg0.N) (k : Fin 32) (d : Fin 1024) :
    (iblk m c 6 t : FVec Ideal S32x1024 .f32) (ix2 k d) = (m ((c : Thread nD τ).loc main_arg7)) (ix2 d k) := by
  blk_point [iblk, V, idx t]

/-- The step size's bias. -/
theorem blk_db (c : Dev nD) (t : Fin cfg0.N) (d : Fin 1024) :
    (iblk m c 7 t : FVec Ideal S1x1024 .f32) (ix2 0 d) = (m ((c : Thread nD τ).loc main_arg8)) (ix1 d) := by
  blk_point [iblk, V, idx t]

/-- The decay rates' logarithms. -/
theorem blk_al (c : Dev nD) (t : Fin cfg0.N) (s : Fin 16) (d : Fin 1024) :
    (iblk m c 8 t : FVec Ideal S16x1024 .f32) (ix2 s d) = (m ((c : Thread nD τ).loc main_arg9)) (ix2 d s) := by
  blk_point [iblk, V, idx t]

/-- The skip connection's weight. -/
theorem blk_dd (c : Dev nD) (t : Fin cfg0.N) (d : Fin 1024) :
    (iblk m c 9 t : FVec Ideal S1x1024 .f32) (ix2 0 d) = (m ((c : Thread nD τ).loc main_arg10)) (ix1 d) := by
  blk_point [iblk, V, idx t]

/-- The output projection. -/
theorem blk_op (c : Dev nD) (t : Fin cfg0.N) (d : Fin 1024) (k : Fin 512) :
    (iblk m c 10 t : FVec Ideal S1024x512 .f32) (ix2 d k) = (m ((c : Thread nD τ).loc main_arg11)) (ix2 k d) := by
  blk_point [iblk, V, idx t]

/-- At every point the blocks' weights are the launch's. -/
theorem blkW_eq (c : Dev nD) (t : Fin cfg0.N) :
    (blkW (iblk m c 1 t) (iblk m c 2 t) (cwRow (iblk m c 3 t) 0) (cwRow (iblk m c 3 t) 1) (cwRow (iblk m c 3 t) 2) (cwRow (iblk m c 3 t) 3) (iblk m c 4 t) (iblk m c 5 t) (iblk m c 6 t) (iblk m c 7 t) (iblk m c 9 t) (iblk m c 8 t) (iblk m c 10 t))
      = memW m c := by
  refine (Weights.mk.injEq ..).mpr ⟨funext fun k => blk_nw m c t k, funext fun e => funext fun k => blk_ip m c t k e,
    funext fun d => funext fun j => ?_, funext fun d => blk_cb m c t d, funext fun e => funext fun d => blk_xp m c t d e,
    funext fun d => funext fun k => blk_dp m c t k d, funext fun d => blk_db m c t d, funext fun d => funext fun s => blk_al m c t s d,
    funext fun d => blk_dd m c t d, funext fun k => funext fun d => blk_op m c t d k⟩
  match j with
  | 0 => exact blk_cw m c t 0 d
  | 1 => exact blk_cw m c t 1 d
  | 2 => exact blk_cw m c t 2 d
  | 3 => exact blk_cw m c t 3 d

/-- What a point leaves: the next halo, the next state and its chunk of the outputs, when it finds its own halo and state. -/
theorem stepAt_seq (c : Dev nD) (t : Fin cfg0.N) (b : Fin 2) (hb : b.val = t.val / 16) (s)
    (hu : t.val % 16 ≠ 0 → ∀ (k : Fin 8) (d : Fin 1024),
      s.1 (ix2 (⟨k.val, by omega⟩ : Fin 136) d) = bufAt (memW m c) (rowSeq (m ((c : Thread nD τ).loc main_arg0)) b) (t.val % 16) k.val d)
    (hh : t.val % 16 ≠ 0 → ∀ (q : Fin 16) (d : Fin 1024),
      s.2 (ix2 q d) = hSeq (memW m c) (rowSeq (m ((c : Thread nD τ).loc main_arg0)) b) (128 * (t.val % 16)) q d) :
    (∀ (k : Fin 8) (d : Fin 1024), (stepAt m c t s).1 (ix2 (⟨k.val, by omega⟩ : Fin 136) d)
        = bufAt (memW m c) (rowSeq (m ((c : Thread nD τ).loc main_arg0)) b) (t.val % 16 + 1) k.val d)
    ∧ (∀ (q : Fin 16) (d : Fin 1024), (stepAt m c t s).2.1 (ix2 q d)
        = hSeq (memW m c) (rowSeq (m ((c : Thread nD τ).loc main_arg0)) b) (128 * (t.val % 16 + 1)) q d)
    ∧ ∀ (r : Fin 128) (k : Fin 512), (stepAt m c t s).2.2 (ix3 0 r k)
        = outSeq (memW m c) (rowSeq (m ((c : Thread nD τ).loc main_arg0)) b) (128 * (t.val % 16) + r.val) k := by
  rw [← blkW_eq m c t] at hu hh ⊢
  by_cases h : isFirst (grid0.coords t)
  · have h0 := (isFirst_iff t).mp h
    have hx := fun r k => blk_x m c t b hb r k
    rw [stepAt_first m c t s h]
    rw [h0] at hx ⊢
    have e := runF_seq c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) (st0_9 t) (hs0_9 t) (st0_10 t) (hs0_10 t) (st0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h _ hx
    dsimp only [runF]
    exact e
  · have h0 : t.val % 16 ≠ 0 := fun e => h ((isFirst_iff t).mpr e)
    rw [stepAt_next m c t s h]
    have e := runN_seq c (grid0.coords t) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) (st0_9 t) (hs0_9 t) (st0_10 t) (hs0_10 t) (st0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h s.1 s.2 (t.val % 16) _ (fun r k => blk_x m c t b hb r k) (hu h0) (hh h0)
    dsimp only [runN]
    exact e

/-- Before every point that is not the first of its row, the carried pair is the row's halo and state. -/
theorem stateAt_seq (c : Dev nD) (n : ℕ) (b : Fin 2) (hn : n < 32) (hb : b.val = n / 16) (h : n % 16 ≠ 0) :
    (∀ (k : Fin 8) (d : Fin 1024), (stateAt m c n).1 (ix2 (⟨k.val, by omega⟩ : Fin 136) d)
        = bufAt (memW m c) (rowSeq (m ((c : Thread nD τ).loc main_arg0)) b) (n % 16) k.val d)
    ∧ ∀ (q : Fin 16) (d : Fin 1024), (stateAt m c n).2 (ix2 q d)
        = hSeq (memW m c) (rowSeq (m ((c : Thread nD τ).loc main_arg0)) b) (128 * (n % 16)) q d := by
  induction n with
  | zero => exact absurd rfl h
  | succ n ih =>
    have e := stepAt_seq m c (⟨n, by show n < 32; omega⟩ : Fin cfg0.N) b (by show b.val = n / 16; omega) (stateAt m c n)
      (fun h' => (ih (by omega) (by omega) h').1) (fun h' => (ih (by omega) (by omega) h').2)
    have hm : (n + 1) % 16 = n % 16 + 1 := by omega
    rw [stateAt_succ m c (⟨n, by show n < 32; omega⟩ : Fin cfg0.N), hm]
    exact ⟨e.1, e.2.1⟩

/-- A point's output block holds its chunk of the layer's outputs. -/
theorem outAt_seq (c : Dev nD) (t : Fin cfg0.N) (b : Fin 2) (hb : b.val = t.val / 16) (r : Fin 128) (k : Fin 512) :
    outAt m c t (ix3 0 r k) = outSeq (memW m c) (rowSeq (m ((c : Thread nD τ).loc main_arg0)) b) (128 * (t.val % 16) + r.val) k :=
  (stepAt_seq m c t b hb (stateAt m c t.val) (fun h => (stateAt_seq m c t.val b t.isLt hb h).1)
    (fun h => (stateAt_seq m c t.val b t.isLt hb h).2)).2.2 r k

/-- The layer's output array. -/
def layerOut (c : Dev nD) : FVec Ideal S2x2048x512 .f32 := fun y =>
  outSeq (memW m c) (rowSeq (m ((c : Thread nD τ).loc main_arg0)) (y 0)) (y 1).val (y 2)

/-- After the launch the result array is the layer's output. -/
theorem final (c : Dev nD) : (dats m 0 c).arrAt 11 (cfgs 0).N = layerOut m c := by
  refine (dats m 0 c).arrAt_eq_of_covers 11 (layerOut m c) (by decide +kernel) fun t hf y => ?_
  have ht : t.val < 32 := t.isLt
  blk_simp
  rw [after0_11]
  idx_vars y
  obtain rfl : y0 = 0 := Subsingleton.elim _ _
  refine (outAt_seq m c t ⟨t.val / 16, by omega⟩ rfl y1 y2).trans ?_
  refine Eq.trans (b := layerOut m c (ix3 (⟨t.val / 16, by omega⟩ : Fin 2) (⟨128 * (t.val % 16) + y1.val, by omega⟩ : Fin 2048) y2)) rfl ?_
  blk_ext [idx t]

end Cert.KernelIdeal.Hand

end
-- ==== Proof.RefPre.lean ====
/-
  The reference before its scan: what its host operations compute at one batch row, one time and one channel, as the
  layer's functions. The mask is one everywhere, so multiplying by it changes nothing.
-/
module

public import proofs.«01_k».proof.Proof.RefRun
public import proofs.«01_k».proof.Proof.Args
public import Idealize.ShloMosaic.Lib.Pointwise
public import Idealize.ShloMosaic.PureOps.Ideal

@[expose] public section

set_option maxRecDepth 16384

noncomputable section

namespace Cert.ReferenceIdeal.Hand

open Cert.ReferenceIdeal Cert.ReferenceIdeal.Gen Cert.ReferenceIdeal.Step
open Idealize.ShloMosaic Idealize.ShloMosaic.TcCoe Idealize.ShloMosaic.Tactic
open Cert.Layer

variable (a0 : FVec Ideal S2x2048x512 .f32) (a1 : IVec S2x2048 32) (a2 : FVec Ideal S512 .f32) (a3 : FVec Ideal S2048x512 .f32)
  (a4 : FVec Ideal S1024x1x4 .f32) (a5 : FVec Ideal S1024 .f32) (a6 : FVec Ideal S64x1024 .f32) (a7 : FVec Ideal S1024x32 .f32)
  (a8 : FVec Ideal S1024 .f32) (a9 : FVec Ideal S1024x16 .f32) (a10 : FVec Ideal S1024 .f32) (a11 : FVec Ideal S512x1024 .f32)

/-- The mask's word as a number. -/
theorem mask_one : FloatOps.sitofp (F := Ideal) .f32 (1#32 : BitVec 32) = (1 : EReal) := by
  show (((1#32 : BitVec 32).toInt : ℝ) : EReal) = 1
  norm_num

/-- The padding's word as a number. -/
theorem pad_zero : FloatOps.sitofp (F := Ideal) .f32 (0#32 : BitVec 32) = (0 : EReal) := by
  show (((0#32 : BitVec 32).toInt : ℝ) : EReal) = 0
  norm_num

/-- A row of the batch at a time inside it. -/
theorem rowSeq_at (b : Fin 2) (t : Fin 2048) (k : Fin 512) : rowSeq a0 b t.val k = a0 (ix3 b t k) := by
  unfold rowSeq
  exact congrArg (fun z => a0 (ix3 b z k)) (Fin.ext (Nat.mod_eq_of_lt t.isLt))

/-- The masked, normalised input. -/
theorem v16_at (hm : ∀ (b : Fin 2) (t : Fin 2048), a1 (ix2 b t) = 1#32) (b : Fin 2) (t : Fin 2048) (k : Fin 512) :
    A_main_v16 (F := Ideal) a0 a1 a2 a3 a4 a5 a6 a7 a8 a9 (ix3 b t k)
      = a0 (ix3 b t k) * Ideal.rsqrt (Ideal.div (∑ l, a0 (ix3 b t l) * a0 (ix3 b t l)) (Ideal.ofBits .f32 1140850688#32) + Ideal.ofBits .f32 925353388#32)
        * a2 (ix1 k) := by
  pointwise [A_main_v16, A_main_v15, A_main_v14, A_main_v13, A_main_v12, A_main_v11, A_main_v10, A_main_v9, A_main_v8, A_main_v7, A_main_v6, A_main_v4, A_main_v2, A_main_v1, A_main_v0, K_main_cst, K_main_v3, K_main_cst_0, K_main_v5, K_main_cst_1]
  rw [hm b t, mask_one, mul_one]

/-- The input projection. -/
theorem v17_at (hm : ∀ (b : Fin 2) (t : Fin 2048), a1 (ix2 b t) = 1#32) (b : Fin 2) (t : Fin 2048) (e : Fin 2048) :
    A_main_v17 (F := Ideal) a0 a1 a2 a3 a4 a5 a6 a7 a8 a9 (ix3 b t e) = inproj (argW a2 a3 a4 a5 a6 a7 a8 a9 a10 a11) (rowSeq a0 b t.val) e := by
  pointwise [A_main_v17]
  refine Finset.sum_congr rfl fun k _ => congrArg₂ (· * ·) ((v16_at a0 a1 a2 a3 a4 a5 a6 a7 a8 a9 hm b t k).trans ?_) rfl
  have e : ∀ l : Fin 512, a0 (ix3 b t l) = rowSeq a0 b t.val l := fun l => (rowSeq_at a0 b t l).symm
  simp only [e]
  rfl

/-- The gating half. -/
theorem v19_at (hm : ∀ (b : Fin 2) (t : Fin 2048), a1 (ix2 b t) = 1#32) (b : Fin 2) (t : Fin 2048) (d : Fin 1024) :
    A_main_v19 (F := Ideal) a0 a1 a2 a3 a4 a5 a6 a7 a8 a9 (ix3 b t d) = zIn (argW a2 a3 a4 a5 a6 a7 a8 a9 a10 a11) (rowSeq a0 b t.val) d := by
  refine Eq.trans ?_ (v17_at a0 a1 a2 a3 a4 a5 a6 a7 a8 a9 a10 a11 hm b t ⟨1024 + d.val, by omega⟩)
  pointwise [A_main_v19]

/-- The convolved half. -/
theorem v18_at (hm : ∀ (b : Fin 2) (t : Fin 2048), a1 (ix2 b t) = 1#32) (b : Fin 2) (t : Fin 2048) (d : Fin 1024) :
    A_main_v18 (F := Ideal) a0 a1 a2 a3 a4 a5 a6 a7 a8 a9 (ix3 b t d) = uIn (argW a2 a3 a4 a5 a6 a7 a8 a9 a10 a11) (rowSeq a0 b t.val) d := by
  refine Eq.trans ?_ (v17_at a0 a1 a2 a3 a4 a5 a6 a7 a8 a9 a10 a11 hm b t ⟨d.val, by omega⟩)
  pointwise [A_main_v18]

/-- The padded projection: three rows of zeros, then the projection. -/
theorem v20_at (hm : ∀ (b : Fin 2) (t : Fin 2048), a1 (ix2 b t) = 1#32) (b : Fin 2) (t : Fin 2051) (d : Fin 1024) :
    A_main_v20 (F := Ideal) a0 a1 a2 a3 a4 a5 a6 a7 a8 a9 (ix3 b t d) = if t.val < 3 then 0 else uIn (argW a2 a3 a4 a5 a6 a7 a8 a9 a10 a11) (rowSeq a0 b (t.val - 3)) d := by
  pointwise [A_main_v20, K_main_call0_v0, K_main_c]
  by_cases h : t.val < 3
  · rw [dif_neg (by omega), if_pos h]
    exact pad_zero
  · rw [dif_pos (by omega), if_neg h]
    exact v18_at a0 a1 a2 a3 a4 a5 a6 a7 a8 a9 a10 a11 hm b ⟨t.val - 3, by omega⟩ d

/-- A window of the padded projection. -/
theorem win_at (hm : ∀ (b : Fin 2) (t : Fin 2048), a1 (ix2 b t) = 1#32) (b : Fin 2) (t : Fin 2048) (j : Fin 4) (q : Fin 2051) (hq : q.val = t.val + j.val) (d : Fin 1024) :
    A_main_v20 (F := Ideal) a0 a1 a2 a3 a4 a5 a6 a7 a8 a9 (ix3 b q d) = tapAt (argW a2 a3 a4 a5 a6 a7 a8 a9 a10 a11) (rowSeq a0 b) t.val j d := by
  refine (v20_at a0 a1 a2 a3 a4 a5 a6 a7 a8 a9 a10 a11 hm b q d).trans ?_
  unfold tapAt
  rw [hq]

/-- The convolution. -/
theorem v50_at (hm : ∀ (b : Fin 2) (t : Fin 2048), a1 (ix2 b t) = 1#32) (b : Fin 2) (t : Fin 2048) (d : Fin 1024) :
    A_main_v50 (F := Ideal) a0 a1 a2 a3 a4 a5 a6 a7 a8 a9 (ix3 b t d) = conv (argW a2 a3 a4 a5 a6 a7 a8 a9 a10 a11) (tapAt (argW a2 a3 a4 a5 a6 a7 a8 a9 a10 a11) (rowSeq a0 b) t.val) d := by
  pointwise [A_main_v50, A_main_v49, A_main_v48, A_main_v47, A_main_v46, A_main_v45, A_main_v44, A_main_v43, A_main_v42, A_main_v41, A_main_v40, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21]
  rw [win_at a0 a1 a2 a3 a4 a5 a6 a7 a8 a9 a10 a11 hm b t 0 _ rfl d, win_at a0 a1 a2 a3 a4 a5 a6 a7 a8 a9 a10 a11 hm b t 1 _ (Nat.add_comm 1 _) d, win_at a0 a1 a2 a3 a4 a5 a6 a7 a8 a9 a10 a11 hm b t 2 _ (Nat.add_comm 2 _) d, win_at a0 a1 a2 a3 a4 a5 a6 a7 a8 a9 a10 a11 hm b t 3 _ (Nat.add_comm 3 _) d]
  unfold conv
  rw [add_comm _ (a5 (ix1 d))]
  simp only [← add_assoc]
  rfl

/-- The activated rows. -/
theorem v51_at (hm : ∀ (b : Fin 2) (t : Fin 2048), a1 (ix2 b t) = 1#32) (b : Fin 2) (t : Fin 2048) (d : Fin 1024) :
    A_main_v51 (F := Ideal) a0 a1 a2 a3 a4 a5 a6 a7 a8 a9 (ix3 b t d) = uAt (argW a2 a3 a4 a5 a6 a7 a8 a9 a10 a11) (rowSeq a0 b) t.val d := by
  pointwise [A_main_v51, A_main_call1_v5, A_main_call1_v3, A_main_call1_v1, A_main_call1_v0, K_main_call1_v2, K_main_call1_v4, K_main_call1_cst, K_main_call1_cst_0]
  rw [v50_at a0 a1 a2 a3 a4 a5 a6 a7 a8 a9 a10 a11 hm b t d]
  rfl

/-- The projection of the activated rows. -/
theorem v52_at (hm : ∀ (b : Fin 2) (t : Fin 2048), a1 (ix2 b t) = 1#32) (b : Fin 2) (t : Fin 2048) (e : Fin 64) :
    A_main_v52 (F := Ideal) a0 a1 a2 a3 a4 a5 a6 a7 a8 a9 (ix3 b t e) = xd (argW a2 a3 a4 a5 a6 a7 a8 a9 a10 a11) (uAt (argW a2 a3 a4 a5 a6 a7 a8 a9 a10 a11) (rowSeq a0 b) t.val) e := by
  pointwise [A_main_v52]
  exact Finset.sum_congr rfl fun d _ => congrArg₂ (· * ·) (v51_at a0 a1 a2 a3 a4 a5 a6 a7 a8 a9 a10 a11 hm b t d) rfl

/-- The step sizes. -/
theorem v60_at (hm : ∀ (b : Fin 2) (t : Fin 2048), a1 (ix2 b t) = 1#32) (b : Fin 2) (t : Fin 2048) (d : Fin 1024) :
    A_main_v60 (F := Ideal) a0 a1 a2 a3 a4 a5 a6 a7 a8 a9 (ix3 b t d) = dt (argW a2 a3 a4 a5 a6 a7 a8 a9 a10 a11) (uAt (argW a2 a3 a4 a5 a6 a7 a8 a9 a10 a11) (rowSeq a0 b) t.val) d := by
  have e : ∑ x : Fin 32, A_main_v52 (F := Ideal) a0 a1 a2 a3 a4 a5 a6 a7 a8 a9 (ix3 b t ⟨x.val, by omega⟩) * a7 (ix2 d x) = dtIn (argW a2 a3 a4 a5 a6 a7 a8 a9 a10 a11) (uAt (argW a2 a3 a4 a5 a6 a7 a8 a9 a10 a11) (rowSeq a0 b) t.val) d :=
    Finset.sum_congr rfl fun k _ => congrArg₂ (· * ·) (v52_at a0 a1 a2 a3 a4 a5 a6 a7 a8 a9 a10 a11 hm b t ⟨k.val, by omega⟩) rfl
  pointwise [A_main_v60, A_main_call2_v11, A_main_call2_v10, A_main_call2_v9, A_main_call2_v8, A_main_call2_v7, A_main_call2_v6, A_main_call2_v4, A_main_call2_v3, A_main_call2_v1, K_main_call2_v0, K_main_call2_v2, K_main_call2_v5, K_main_call2_cst, A_main_v59, A_main_v58, A_main_v57, A_main_v56, A_main_v53]
  rw [e, if_neg (not_not.mpr rfl)]
  unfold dt softplus
  rw [zero_sub]
  rfl

/-- The step sizes, position first. -/
theorem v63_at (hm : ∀ (b : Fin 2) (t : Fin 2048), a1 (ix2 b t) = 1#32) (t : Fin 2048) (b : Fin 2) (d : Fin 1024) :
    A_main_v63 (F := Ideal) a0 a1 a2 a3 a4 a5 a6 a7 a8 a9 (ix3 t b d) = dt (argW a2 a3 a4 a5 a6 a7 a8 a9 a10 a11) (uAt (argW a2 a3 a4 a5 a6 a7 a8 a9 a10 a11) (rowSeq a0 b) t.val) d := by
  pointwise [A_main_v63]
  exact v60_at a0 a1 a2 a3 a4 a5 a6 a7 a8 a9 a10 a11 hm b t d

/-- The input gates, position first. -/
theorem v64_at (hm : ∀ (b : Fin 2) (t : Fin 2048), a1 (ix2 b t) = 1#32) (t : Fin 2048) (b : Fin 2) (s : Fin 16) :
    A_main_v64 (F := Ideal) a0 a1 a2 a3 a4 a5 a6 a7 a8 a9 (ix3 t b s) = bm (argW a2 a3 a4 a5 a6 a7 a8 a9 a10 a11) (uAt (argW a2 a3 a4 a5 a6 a7 a8 a9 a10 a11) (rowSeq a0 b) t.val) s := by
  pointwise [A_main_v64, A_main_v54]
  exact v52_at a0 a1 a2 a3 a4 a5 a6 a7 a8 a9 a10 a11 hm b t _

/-- The output gates, position first. -/
theorem v65_at (hm : ∀ (b : Fin 2) (t : Fin 2048), a1 (ix2 b t) = 1#32) (t : Fin 2048) (b : Fin 2) (s : Fin 16) :
    A_main_v65 (F := Ideal) a0 a1 a2 a3 a4 a5 a6 a7 a8 a9 (ix3 t b s) = cm (argW a2 a3 a4 a5 a6 a7 a8 a9 a10 a11) (uAt (argW a2 a3 a4 a5 a6 a7 a8 a9 a10 a11) (rowSeq a0 b) t.val) s := by
  pointwise [A_main_v65, A_main_v55]
  exact v52_at a0 a1 a2 a3 a4 a5 a6 a7 a8 a9 a10 a11 hm b t _

/-- The activated rows, position first. -/
theorem v66_at (hm : ∀ (b : Fin 2) (t : Fin 2048), a1 (ix2 b t) = 1#32) (t : Fin 2048) (b : Fin 2) (d : Fin 1024) :
    A_main_v66 (F := Ideal) a0 a1 a2 a3 a4 a5 a6 a7 a8 a9 (ix3 t b d) = uAt (argW a2 a3 a4 a5 a6 a7 a8 a9 a10 a11) (rowSeq a0 b) t.val d := by
  pointwise [A_main_v66]
  exact v51_at a0 a1 a2 a3 a4 a5 a6 a7 a8 a9 a10 a11 hm b t d

/-- The gating half, position first. -/
theorem v67_at (hm : ∀ (b : Fin 2) (t : Fin 2048), a1 (ix2 b t) = 1#32) (t : Fin 2048) (b : Fin 2) (d : Fin 1024) :
    A_main_v67 (F := Ideal) a0 a1 a2 a3 a4 a5 a6 a7 a8 a9 (ix3 t b d) = zIn (argW a2 a3 a4 a5 a6 a7 a8 a9 a10 a11) (rowSeq a0 b t.val) d := by
  pointwise [A_main_v67]
  exact v19_at a0 a1 a2 a3 a4 a5 a6 a7 a8 a9 a10 a11 hm b t d

/-- The rates of decay. -/
theorem v62_at (d : Fin 1024) (s : Fin 16) :
    A_main_v62 (F := Ideal) a0 a1 a2 a3 a4 a5 a6 a7 a8 a9 (ix2 d s) = 0 - Ideal.exp (a9 (ix2 d s)) := by
  pointwise [A_main_v62, A_main_v61]
  rw [zero_sub]

end Cert.ReferenceIdeal.Hand

end
-- ==== Proof.RefScan.lean ====
/-
  The reference's scan: one step's recurrent state and output row in plain terms, the carry after `n` steps, and the
  reference's result as the layer's output.
-/
module

public import proofs.«01_k».proof.Proof.RefPre
public import Idealize.ShloMosaic.Lib.WordCmp

@[expose] public section

set_option maxRecDepth 16384

noncomputable section

namespace Cert.ReferenceIdeal.Hand

open Cert.ReferenceIdeal Cert.ReferenceIdeal.Gen Cert.ReferenceIdeal.Step
open Idealize.ShloMosaic Idealize.ShloMosaic.TcCoe Idealize.ShloMosaic.Tactic
open Cert.Layer Idealize.ShloMosaic.WordCmp

section Step

variable (j : ℕ) (hj : j < 2048) (s : Step.State Ideal) (b : Fin 2)

include hj in
/-- The start words of a step's slices: the step's number, then zeros. -/
theorem start_at (u v : IVec S_ 32) (hu : u = constantI S_ 32 0#32) (hv : v = constantI S_ 32 0#32) (a : Fin 3) :
    ((![(constantI S_ 32 (BitVec.ofNat 32 j) : IVec S_ 32), u, v] : Fin 3 → IVec S_ 32) a (Shape.Idx.first h_S_)).toInt
      = ((![j, 0, 0] : Fin 3 → ℕ) a : ℤ) := by
  subst hu hv
  match a with
  | 0 => exact toInt_ofNat_of_lt (by omega)
  | 1 => exact rfl
  | 2 => exact rfl

include hj in
/-- A step's row of a wide stream. -/
theorem wide_fits : S2048x2x1024.Slices ![j, 0, 0] S1x2x1024 := ⟨rfl, fun a => by
  match a with
  | 0 => show j + 1 ≤ 2048; omega
  | 1 => exact Nat.le_refl _
  | 2 => exact Nat.le_refl _⟩

include hj in
/-- A step's row of a narrow stream. -/
theorem narrow_fits : S2048x2x16.Slices ![j, 0, 0] S1x2x16 := ⟨rfl, fun a => by
  match a with
  | 0 => show j + 1 ≤ 2048; omega
  | 1 => exact Nat.le_refl _
  | 2 => exact Nat.le_refl _⟩

include hj in
/-- A row of a wide stream, read at a step's start. -/
theorem wide_row (x : FVec Ideal S2048x2x1024 .f32) (start : Fin 3 → ℤ) (h : S2048x2x1024.Slices (fun _ => 0) S1x2x1024)
    (e : ∀ a, start a = ((![j, 0, 0] : Fin 3 → ℕ) a : ℤ)) (d : Fin 1024) :
    shapeCast S2x1024 (Host.dynamicSlice S1x2x1024 x start h) shapeCasts_S1x2x1024_S2x1024 (ix2 b d) = x (ix3 ⟨j, hj⟩ b d) := by
  rw [dynamicSlice_eq_extract S1x2x1024 x start h ![j, 0, 0] (wide_fits j hj) e]
  pointwise []

include hj in
/-- A row of a narrow stream, read at a step's start. -/
theorem narrow_row (x : FVec Ideal S2048x2x16 .f32) (start : Fin 3 → ℤ) (h : S2048x2x16.Slices (fun _ => 0) S1x2x16)
    (e : ∀ a, start a = ((![j, 0, 0] : Fin 3 → ℕ) a : ℤ)) (n : Fin 16) :
    shapeCast S2x16 (Host.dynamicSlice S1x2x16 x start h) shapeCasts_S1x2x16_S2x16 (ix2 b n) = x (ix3 ⟨j, hj⟩ b n) := by
  rw [dynamicSlice_eq_extract S1x2x16 x start h ![j, 0, 0] (narrow_fits j hj) e]
  pointwise []

/-- The step-size row. -/
theorem b3_at (d : Fin 1024) : b3 j s (ix2 b d) = s.main_v70_0 (ix3 ⟨j, hj⟩ b d) :=
  wide_row j hj b s.main_v70_0 _ _ (start_at j hj (b0 j s) (b1 j s) rfl rfl) d

/-- The input-gate row. -/
theorem b7_at (n : Fin 16) : b7 j s (ix2 b n) = s.main_v70_1 (ix3 ⟨j, hj⟩ b n) :=
  narrow_row j hj b s.main_v70_1 _ _ (start_at j hj (b4 j s) (b5 j s) rfl rfl) n

/-- The output-gate row. -/
theorem b11_at (n : Fin 16) : b11 j s (ix2 b n) = s.main_v70_2 (ix3 ⟨j, hj⟩ b n) :=
  narrow_row j hj b s.main_v70_2 _ _ (start_at j hj (b8 j s) (b9 j s) rfl rfl) n

/-- The activated row. -/
theorem b15_at (d : Fin 1024) : b15 j s (ix2 b d) = s.main_v70_3 (ix3 ⟨j, hj⟩ b d) :=
  wide_row j hj b s.main_v70_3 _ _ (start_at j hj (b12 j s) (b13 j s) rfl rfl) d

/-- The gating row. -/
theorem b19_at (d : Fin 1024) : b19 j s (ix2 b d) = s.main_v70_4 (ix3 ⟨j, hj⟩ b d) :=
  wide_row j hj b s.main_v70_4 _ _ (start_at j hj (b16 j s) (b17 j s) rfl rfl) d

/-- The new recurrent state. -/
theorem b35_at (d : Fin 1024) (n : Fin 16) :
    b35 j s (ix3 b d n) = Ideal.exp (s.main_v70_0 (ix3 ⟨j, hj⟩ b d) * s.main_v70_5 (ix2 d n)) * s.main_v70_8 (ix3 b d n)
      + s.main_v70_0 (ix3 ⟨j, hj⟩ b d) * s.main_v70_1 (ix3 ⟨j, hj⟩ b n) * s.main_v70_3 (ix3 ⟨j, hj⟩ b d) := by
  pointwise [b35, b34, b33, b32, b31, b30, b29, b28, b27, b26, b25, b24, b23, b22, b21, b20]
  rw [b3_at j hj, b7_at j hj, b15_at j hj]

/-- The output row. -/
theorem b50_at (d : Fin 1024) :
    b50 j s (ix2 b d) = ((∑ n, b35 j s (ix3 b d n) * s.main_v70_2 (ix3 ⟨j, hj⟩ b n))
        + s.main_v70_6 (ix1 d) * s.main_v70_3 (ix3 ⟨j, hj⟩ b d)) * silu (s.main_v70_4 (ix3 ⟨j, hj⟩ b d)) := by
  pointwise [b50, b49, b48, b47, b46, b45, b44, b43, b42, b41, b40, b39, b38, b37, b36]
  rw [b15_at j hj, b19_at j hj]
  simp only [b11_at j hj]
  rfl

include hj in
/-- The collected rows: the step's own is written, the others stay. -/
theorem b54_at (t : Fin 2048) (d : Fin 1024) :
    b54 j s (ix3 t b d) = if t.val = j then b50 j s (ix2 b d) else s.main_v70_9 (ix3 t b d) := by
  unfold b54 b51
  refine (congrFun (dynamicUpdateSlice_eq_update s.main_v70_9 _ _ _ ![j, 0, 0] (wide_fits j hj) (start_at j hj (b52 j s) (b53 j s) rfl rfl)) (ix3 t b d)).trans ?_
  pointwise []
  by_cases ht : t.val = j
  · rw [dif_pos (by omega), if_pos ht]
  · rw [dif_neg (by omega), if_neg ht]

end Step

section Scan

variable (m : (ℓ : Loc nD τ sig) → Buf (Elt Ideal) ℓ) (c : Dev nD)

/-- The layer's weights, as the reference's memory holds them. -/
def refW : Weights := argW (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8)) (m ((c.tc : Thread nD τ).loc main_arg9))
  (m ((c.tc : Thread nD τ).loc main_arg10)) (m ((c.tc : Thread nD τ).loc main_arg11))

/-- A batch row's inputs in time, as the reference's memory holds them. -/
def refX (b : Fin 2) : ℕ → Fin 512 → EReal := rowSeq (m ((c.tc : Thread nD τ).loc main_arg0)) b

/-- The streams a step reads are never written. -/
theorem scan_keeps : ∀ n : ℕ, (scanAt m c n).main_v70_0 = (startOf m c).main_v70_0
    ∧ (scanAt m c n).main_v70_1 = (startOf m c).main_v70_1 ∧ (scanAt m c n).main_v70_2 = (startOf m c).main_v70_2
    ∧ (scanAt m c n).main_v70_3 = (startOf m c).main_v70_3 ∧ (scanAt m c n).main_v70_4 = (startOf m c).main_v70_4
    ∧ (scanAt m c n).main_v70_5 = (startOf m c).main_v70_5 ∧ (scanAt m c n).main_v70_6 = (startOf m c).main_v70_6
  | 0 => ⟨rfl, rfl, rfl, rfl, rfl, rfl, rfl⟩
  | n + 1 => scan_keeps n

variable (hm : ∀ (b : Fin 2) (t : Fin 2048), m ((c.tc : Thread nD τ).loc main_arg1) (ix2 b t) = 1#32)

include hm

/-- The step sizes at any step. -/
theorem scan_dt (n : ℕ) (t : Fin 2048) (b : Fin 2) (d : Fin 1024) :
    (scanAt m c n).main_v70_0 (ix3 t b d) = dt (refW m c) (uAt (refW m c) (refX m c b) t.val) d :=
  (congrFun (scan_keeps m c n).1 _).trans (v63_at _ _ _ _ _ _ _ _ _ _ _ _ hm t b d)

/-- The input gates at any step. -/
theorem scan_bm (n : ℕ) (t : Fin 2048) (b : Fin 2) (s : Fin 16) :
    (scanAt m c n).main_v70_1 (ix3 t b s) = bm (refW m c) (uAt (refW m c) (refX m c b) t.val) s :=
  (congrFun (scan_keeps m c n).2.1 _).trans (v64_at _ _ _ _ _ _ _ _ _ _ _ _ hm t b s)

/-- The output gates at any step. -/
theorem scan_cm (n : ℕ) (t : Fin 2048) (b : Fin 2) (s : Fin 16) :
    (scanAt m c n).main_v70_2 (ix3 t b s) = cm (refW m c) (uAt (refW m c) (refX m c b) t.val) s :=
  (congrFun (scan_keeps m c n).2.2.1 _).trans (v65_at _ _ _ _ _ _ _ _ _ _ _ _ hm t b s)

/-- The activated rows at any step. -/
theorem scan_u (n : ℕ) (t : Fin 2048) (b : Fin 2) (d : Fin 1024) :
    (scanAt m c n).main_v70_3 (ix3 t b d) = uAt (refW m c) (refX m c b) t.val d :=
  (congrFun (scan_keeps m c n).2.2.2.1 _).trans (v66_at _ _ _ _ _ _ _ _ _ _ _ _ hm t b d)

/-- The gating rows at any step. -/
theorem scan_z (n : ℕ) (t : Fin 2048) (b : Fin 2) (d : Fin 1024) :
    (scanAt m c n).main_v70_4 (ix3 t b d) = zIn (refW m c) (refX m c b t.val) d :=
  (congrFun (scan_keeps m c n).2.2.2.2.1 _).trans (v67_at _ _ _ _ _ _ _ _ _ _ _ _ hm t b d)

omit hm in
/-- The rates of decay at any step. -/
theorem scan_rate (n : ℕ) (d : Fin 1024) (s : Fin 16) :
    (scanAt m c n).main_v70_5 (ix2 d s) = 0 - Ideal.exp ((refW m c).al d s) :=
  (congrFun (scan_keeps m c n).2.2.2.2.2.1 _).trans (v62_at _ _ _ _ _ _ _ _ _ _ d s)

omit hm in
/-- The direct weights at any step. -/
theorem scan_direct (n : ℕ) (d : Fin 1024) : (scanAt m c n).main_v70_6 (ix1 d) = (refW m c).dd d :=
  congrFun (scan_keeps m c n).2.2.2.2.2.2 _

/-- The recurrent state after `n` steps. -/
theorem scan_state (b : Fin 2) (d : Fin 1024) (s : Fin 16) : ∀ n : ℕ, n ≤ 2048 →
    (scanAt m c n).main_v70_8 (ix3 b d s) = hSeq (refW m c) (refX m c b) n s d
  | 0, _ => by
    show K_main_v68 (F := Ideal) (ix3 b d s) = 0
    pointwise [K_main_v68, K_main_cst_2]
  | n + 1, h => by
    refine (b35_at n h (scanAt m c n) b d s).trans ?_
    rw [scan_dt m c hm, scan_rate m c, scan_bm m c hm, scan_u m c hm, scan_state b d s n (by omega)]
    unfold hSeq
    refine congrArg₂ (· + ·) rfl ?_
    unfold incr
    rw [mul_comm (dt _ _ _) (bm _ _ _), mul_assoc]

/-- The row a step writes. -/
theorem scan_out (t : ℕ) (ht : t < 2048) (b : Fin 2) (d : Fin 1024) :
    b50 t (scanAt m c t) (ix2 b d) = gated (refW m c) (uAt (refW m c) (refX m c b) t) (zIn (refW m c) (refX m c b t))
      (hSeq (refW m c) (refX m c b) (t + 1)) d := by
  refine (b50_at t ht (scanAt m c t) b d).trans ?_
  rw [scan_z m c hm, scan_u m c hm, scan_direct m c]
  unfold gated
  refine congrArg₂ (· * ·) (congrArg₂ (· + ·) (Finset.sum_congr rfl fun n _ => ?_) rfl) rfl
  rw [scan_cm m c hm, mul_comm]
  exact congrArg₂ (· * ·) rfl (scan_state m c hm b d n (t + 1) ht)

/-- The rows collected before step `n`. -/
theorem scan_rows (t : Fin 2048) (b : Fin 2) (d : Fin 1024) : ∀ n : ℕ, n ≤ 2048 → t.val < n →
    (scanAt m c n).main_v70_9 (ix3 t b d) = gated (refW m c) (uAt (refW m c) (refX m c b) t.val)
      (zIn (refW m c) (refX m c b t.val)) (hSeq (refW m c) (refX m c b) (t.val + 1)) d
  | 0, _, ht => absurd ht (Nat.not_lt_zero _)
  | n + 1, h, ht => by
    refine (b54_at n h (scanAt m c n) b t d).trans ?_
    by_cases e : t.val = n
    · rw [if_pos e, ← e]
      exact scan_out m c hm t.val t.isLt b d
    · rw [if_neg e]
      exact scan_rows t b d n (by omega) (by omega)

/-- The reference's result is the layer's output. -/
theorem result_at (b : Fin 2) (t : Fin 2048) (i : Fin 512) :
    R_main_v77 (F := Ideal) (scanAt m c 2048) (m ((c.tc : Thread nD τ).loc main_arg0)) (m ((c.tc : Thread nD τ).loc main_arg1))
      (m ((c.tc : Thread nD τ).loc main_arg11)) (ix3 b t i) = outSeq (refW m c) (refX m c b) t.val i := by
  pointwise [R_main_v77]
  rw [hm b t, mask_one, mul_one]
  unfold outSeq outRow
  refine congrArg₂ (· + ·) (rowSeq_at _ b t i).symm (Finset.sum_congr rfl fun d _ => congrArg₂ (· * ·) ?_ rfl)
  exact scan_rows m c hm t b d 2048 (Nat.le_refl _) t.isLt

end Scan

end Cert.ReferenceIdeal.Hand

end
-- ==== Proof.Value.lean ====
/-
  The value claim: from memories that agree on the arguments, with every word of the mask one, the kernel and the
  reference end with the same result, the layer's output.
-/
module

public import proofs.«01_k».proof.Defs
public import proofs.«01_k».proof.Proof.Frames
public import proofs.«01_k».proof.Proof.Points
public import proofs.«01_k».proof.Proof.RefScan

@[expose] public section

set_option maxRecDepth 16384

noncomputable section

namespace Cert.KernelIdeal.Hand

open Cert.KernelIdeal Cert.KernelIdeal.Gen
open Idealize.ShloMosaic

/-- The kernel ends with the layer's output in its result. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = layerOut m c) :=
  (θ_run _ _ _).mono (fun r h c => ((h.1 c).1 11).trans (final m c)) (run_main (F := Ideal) m ρ)

end Cert.KernelIdeal.Hand

namespace Cert.Proof

open Idealize.ShloMosaic
open Cert.Layer

/-- Two properties of every run hold of it together. -/
theorem both {nD : ℕ} {τ : Topo} {sig : RefSig} {Val : EltTy → Type} {Λ : Idealize.SL.Sem.Labels} {defs : Defs nD τ sig Val Λ}
    {p : (c : Thread nD τ) → Idealize.SL.Sem.Prog (TpuEff nD τ sig Val Λ c.2) PUnit} {s : MemSt nD τ sig Val}
    {Q Q' : PUnit × MemSt nD τ sig Val → Prop} (h : θ_run defs p s Q) (h' : θ_run defs p s Q') :
    θ_run defs p s fun r => Q r ∧ Q' r :=
  ⟨fun t ht hf => ⟨h.post t ht hf, h'.post t ht hf⟩, h.progress, h.fair⟩

/-- The precondition's word test, read at a position. -/
theorem mask_word [Cert.Pre_mask_is_one.Facts] (m : (ℓ : Loc Cert.KernelIdeal.nD Cert.KernelIdeal.τ Cert.KernelIdeal.sig) → Buf (Elt Ideal) ℓ)
    (h : Cert.Pre_KernelIdeal_mask_is_one m) (c : Dev Cert.KernelIdeal.nD) (y : Cert.KernelIdeal.S2x2048.Idx) :
    m ((c.tc : Thread Cert.KernelIdeal.nD Cert.KernelIdeal.τ).loc Cert.KernelIdeal.main_arg1) y = 1#32 := by
  have e := congrFun (h c) y
  unfold Cert.Pre_mask_is_one.fn at e
  exact (IntOp.cmpi_eq).mp e

/-- The kernel and the reference compute the same result. -/
theorem algebraic [Cert.Pre_mask_is_one.Facts] :
    Cert.algebraic_KernelIdeal_ReferenceIdeal_pre_mask_is_one := by
  intro m g m' g' hpre agree
  refine ⟨fun c => Cert.KernelIdeal.Hand.layerOut m c, ?_, ?_⟩
  · exact (θ_run _ _ _).mono (fun r h c => ⟨h.1 c, h.2.1 c⟩)
      (both (Cert.KernelIdeal.Hand.run_value m g) (Cert.KernelIdeal.Hand.frame m g))
  · refine (θ_run _ _ _).mono (fun r h c => ⟨(h c).1.trans ?_, (h c).2⟩) (Cert.ReferenceIdeal.Hand.run_scan (F := Ideal) m' g')
    obtain ⟨h0, h1, h2, h3, h4, h5, h6, h7, h8, h9, h10, h11⟩ := agree c
    have hW : Cert.ReferenceIdeal.Hand.refW m' c = Cert.KernelIdeal.Hand.memW m c := by
      unfold Cert.ReferenceIdeal.Hand.refW Cert.KernelIdeal.Hand.memW
      rw [h2, h3, h4, h5, h6, h7, h8, h9, h10, h11]
    have hX : ∀ b, Cert.ReferenceIdeal.Hand.refX m' c b = rowSeq (m ((c.tc : Thread Cert.KernelIdeal.nD Cert.KernelIdeal.τ).loc Cert.KernelIdeal.main_arg0)) b := by
      intro b
      unfold Cert.ReferenceIdeal.Hand.refX
      rw [h0]
    have hm : ∀ (b : Fin 2) (t : Fin 2048), m' ((c.tc : Thread Cert.ReferenceIdeal.nD Cert.ReferenceIdeal.τ).loc Cert.ReferenceIdeal.main_arg1) (ix2 b t) = 1#32 := by
      intro b t
      rw [h1]
      exact mask_word m hpre c _
    funext y
    idx_vars y
    refine (Cert.ReferenceIdeal.Hand.result_at m' c hm y0 y1 y2).trans ?_
    rw [hW, hX]
    rfl

end Cert.Proof

end
-- ==== Proof.lean ====
/-
  The claims about the kernel, its idealization and the reference.
-/
module

public import proofs.«01_k».proof.Defs
public import proofs.«01_k».proof.Proof.Frames
public import proofs.«01_k».proof.Proof.Value

@[expose] public section

noncomputable section

namespace Cert.Proof

open Idealize.ShloMosaic

/-- The shape relation the mask's precondition states. -/
theorem mask_facts : Cert.Pre_mask_is_one.Facts := ⟨by decide⟩

/-- Every program's frame, that the idealization preserves the kernel, and that the kernel's result is the reference's. -/
theorem claim : Cert.Claim :=
  ⟨Cert.Kernel.Gen.facts, Cert.KernelIdeal.Gen.facts, Cert.ReferenceIdeal.Gen.facts, mask_facts,
    fun m g _ => Cert.Kernel.Hand.frame m g, fun m g _ => Cert.KernelIdeal.Hand.frame m g,
    fun m g _ => Cert.KernelIdeal.Hand.frame m g, fun m g _ => Cert.ReferenceIdeal.Hand.frame m g,
    fun m g _ => Cert.ReferenceIdeal.Hand.frame m g, trivial, haveI := mask_facts; algebraic⟩

end Cert.Proof

end
